-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows_KernelIdeal [hPre_finite_rows_KernelIdeal : Cert.Pre_finite_rows_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_ReferenceIdeal [hPre_finite_rows_ReferenceIdeal : Cert.Pre_finite_rows_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_rows_KernelIdeal [hKernelIdeal : Cert.KernelIdeal.Facts] [hPre_finite_rows_KernelIdeal : Cert.Pre_finite_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_rows_ReferenceIdeal [hReferenceIdeal : Cert.ReferenceIdeal.Facts] [hPre_finite_rows_ReferenceIdeal : Cert.Pre_finite_rows_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_rows_KernelIdeal [hKernelIdeal : Cert.KernelIdeal.Facts] [hReferenceIdeal : Cert.ReferenceIdeal.Facts] [hPre_finite_rows_KernelIdeal : Cert.Pre_finite_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![256]⟩ ⟨1, ![512]⟩ (Layout.meshBlock [2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨1, ![256]⟩ ⟨1, ![512]⟩ (Layout.meshBlock [2, 2] ![[1]] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![512, 256]⟩ ⟨2, ![1024, 512]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_rows_KernelIdeal : Cert.Pre_finite_rows_KernelIdeal.Facts) (hPre_finite_rows_ReferenceIdeal : Cert.Pre_finite_rows_ReferenceIdeal.Facts),
    quiescent_Kernel (hKernel := hKernel)
    ∧ quiescent_KernelIdeal (hKernelIdeal := hKernelIdeal)
    ∧ quiescent_KernelIdeal_pre_finite_rows_KernelIdeal (hKernelIdeal := hKernelIdeal) (hPre_finite_rows_KernelIdeal := hPre_finite_rows_KernelIdeal)
    ∧ quiescent_ReferenceIdeal (hReferenceIdeal := hReferenceIdeal)
    ∧ quiescent_ReferenceIdeal_pre_finite_rows_ReferenceIdeal (hReferenceIdeal := hReferenceIdeal) (hPre_finite_rows_ReferenceIdeal := hPre_finite_rows_ReferenceIdeal)
    ∧ preserves_Kernel_KernelIdeal
    ∧ algebraic_KernelIdeal_ReferenceIdeal_pre_finite_rows_KernelIdeal (hKernelIdeal := hKernelIdeal) (hReferenceIdeal := hReferenceIdeal) (hPre_finite_rows_KernelIdeal := hPre_finite_rows_KernelIdeal)
-- ==== Pre_finite_rows_KernelIdeal.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)

variable [Facts]

def fn {F : FTy → Type} [FloatOps F] (main_arg0 : FVec F S512x256 .bf16) (main_arg1 : FVec F S256 .bf16) (main_arg2 : FVec F S256 .bf16) : IVec S512x256 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  main_v2
-- ==== Pre_finite_rows_ReferenceIdeal.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)

variable [Facts]

def fn {F : FTy → Type} [FloatOps F] (main_arg0 : FVec F S1024x512 .bf16) (main_arg1 : FVec F S512 .bf16) (main_arg2 : FVec F S512 .bf16) : IVec S1024x512 1 :=
  let main_v0 : FVec F S1024x512 .bf16 := Host.absf main_arg0
  let main_cst : FVec F S_ .bf16 := constant S_ .bf16 0x7F80#16
  let main_v1 : FVec F S1024x512 .bf16 := broadcastInDim S1024x512 ![] bcast_S_S1024x512 main_cst
  let main_v2 : IVec S1024x512 1 := cmpf .olt main_v0 main_v1
  main_v2
-- ==== Kernel.lean ====
abbrev S512x256 : Shape := ⟨2, ![512, 256]⟩
abbrev S256 : Shape := ⟨1, ![256]⟩
abbrev S1x256 : Shape := ⟨2, ![1, 256]⟩
abbrev S512x2 : Shape := ⟨2, ![512, 2]⟩
abbrev S_ : Shape := ⟨0, ![]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256, .bf16⟩
  | .hbm, ⟨2, _⟩ => ⟨S256, .bf16⟩
  | .hbm, ⟨3, _⟩ => ⟨S1x256, .bf16⟩
  | .hbm, ⟨4, _⟩ => ⟨S1x256, .bf16⟩
  | .hbm, ⟨5, _⟩ => ⟨S512x256, .bf16⟩
  | .local _ .vmem, ⟨0, _⟩ => ⟨S512x256, .bf16⟩
  | .local _ .vmem, ⟨1, _⟩ => ⟨S1x256, .bf16⟩
  | .local _ .vmem, ⟨2, _⟩ => ⟨S1x256, .bf16⟩
  | .local _ .vmem, ⟨3, _⟩ => ⟨S512x256, .bf16⟩
  | .local _ .vmem, ⟨4, _⟩ => ⟨S512x2, .f32⟩
  | .local _ .vmem, ⟨5, _⟩ => ⟨S512x2, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v26 : BitVec 32 := Scalar.muli v2 c2_i32_12
  let v27 : BitVec 32 := Scalar.addi c0_i32_13 v26
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v28 : BitVec 32 := Scalar.muli v6 c1_i32_14
  let v29 : BitVec 32 := Scalar.addi v27 v28
  v29.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512, .bf16⟩
  | .hbm, ⟨2, _⟩ => ⟨S512, .bf16⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .i32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x512, .f32⟩
  | .hbm, ⟨37, _⟩ => ⟨S1024x512, .f32⟩
  | .hbm, ⟨38, _⟩ => ⟨S1x512, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024x1, .f32⟩
  | .hbm, ⟨45, _⟩ => ⟨S1024x512, .f32⟩
  | .hbm, ⟨46, _⟩ => ⟨S1024x512, .f32⟩
  | .hbm, ⟨47, _⟩ => ⟨S1x512, .f32⟩
  | .hbm, ⟨48, _⟩ => ⟨S1024x512, .f32⟩
  | .hbm, ⟨49, _⟩ => ⟨S1024x512, .f32⟩
  | .hbm, ⟨50, _⟩ => ⟨S1024x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Proof.KernelIdealSwap.lean ====
/-
The exchange of row statistics, on one symbolic device of the 2 × 2 mesh.

A device `c` has one partner, `partner c`, the device beside it along the second mesh axis. The protocol, before any proof:

* the runtime's barrier semaphore of `c` receives one unit, from its partner; with the unit comes the partner's landing buffer
  and the knowledge that the partner's receive semaphore is ready to be paid;
* once `c` has that unit it copies its own statistics (row sums, row sums of squares) into that landing buffer;
* the copy pays the partner's receive semaphore with the landing buffer, now holding `c`'s statistics, and pays `c`'s own send
  semaphore with HALF of the statistics buffer: the body reads its own statistics again while the copy may still be under way,
  so it keeps the other half;
* `c` waits for its receive semaphore, reads both buffers, stores the result, and waits for its send semaphore, after which it
  has both halves again.

Everything here is stated for any interpretation of the floats, with the contents of every buffer named.
-/
module

public import proofs.«01_k».proof.Proof.Gen.KernelIdeal.Frame
public import proofs.«01_k».proof.Proof.Gen.KernelIdeal.Skeleton
public import Idealize.ShloMosaic.Lib.Pipeline.RegionTalk
public import Idealize.ShloMosaic.Lib.Rounds
public import Idealize.ShloMosaic.Lib.Writes
public import Idealize.ShloMosaic.Lib.Tactic

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- Two independent ledgers: the staging copies', and the exchange's. -/
abbrev Ledgers : Type := UR sig nD τ × UR sig nD τ

local notation "𝕄" => MT nD τ sig Unit (Elt F) ℕ Ledgers ℕ

abbrev stageLedger : Emb (UR sig nD τ) (MT nD τ sig Unit (Elt F) ℕ Ledgers ℕ) := embL
abbrev ledger : Emb (UR sig nD τ) (MT nD τ sig Unit (Elt F) ℕ Ledgers ℕ) := embR

variable (m : (ℓ : Loc nD τ sig) → Buf (Elt F) ℓ)

/-! ## Partners, semaphores, buffers -/

set_option backward.proofsInPublic true in
/-- The device beside `c` along the second axis of the mesh: the last binary digit flipped. -/
def partner (c : Dev nD) : Dev nD := ⟨2 * (c.val / 2) + 1 - c.val % 2, by revert c; decide⟩

theorem partner_partner (c : Dev nD) : partner (partner c) = c := by revert c; decide

/-- Going to the partner, as a permutation of the devices. -/
def flip : Dev nD ≃ Dev nD := ⟨partner, partner, partner_partner, partner_partner⟩

theorem signalled_eq (c : Dev nD) : (⟨k0_dev1 c, k0_dev1_lt c⟩ : Dev nD) = partner c := Fin.ext (k0_dev1_eq c)
theorem addressed_eq (c : Dev nD) : (⟨k0_dev2 c, k0_dev2_lt c⟩ : Dev nD) = partner c := Fin.ext (k0_dev2_eq c)

abbrev readySem : Sem sig := (SemArray.scalar (sig.barrier 0 rfl) : Sems sig S_).sem
abbrev sentSem : DmaSem sig := (cc0_scratch2 : DmaSems sig S_).sem
abbrev gotSem : DmaSem sig := (cc0_scratch3 : DmaSems sig S_).sem

abbrev ready (c : Dev nD) : GSem nD τ sig := ((c : Thread nD τ), .reg readySem)
abbrev sent (c : Dev nD) : GSem nD τ sig := ((c : Thread nD τ), .dma sentSem)
abbrev got (c : Dev nD) : GSem nD τ sig := ((c : Thread nD τ), .dma gotSem)

theorem sent_ne_got : sentSem ≠ gotSem := by decide

abbrev statM : Memref sig .tc .vmem S512x2 .f32 := Memref.whole cc0_scratch0
abbrev landM : Memref sig .tc .vmem S512x2 .f32 := Memref.whole cc0_scratch1

/-- What one copy of the statistics pays on a semaphore. -/
abbrev load : ℕ := landM.view.dmaCredit
theorem credits_eq : statM.view.dmaCredit = load := rfl
theorem load_pos : 0 < load := View.dmaCredit_pos _ (by decide)

/-! ## Contents -/

/-- The device's block of `x`, and its `gamma` and `beta`, as the body finds them. -/
abbrev xin (c : Dev nD) : Vec F S512x256 .bf16 := iblk m c 0 t0_0
abbrev gin (c : Dev nD) : Vec F S1x256 .bf16 := iblk m c 1 t0_0
abbrev bin (c : Dev nD) : Vec F S1x256 .bf16 := iblk m c 2 t0_0

/-- The first and the second column of a statistics buffer. -/
abbrev col0 : Rect S512x2 := Rect.unit (s := S512x2) ![0, 0] S512x1.size inb_S512x2_S512x1_0_0
abbrev col1 : Rect S512x2 := Rect.unit (s := S512x2) ![0, 1] S512x1.size inb_S512x2_S512x1_0_1

/-- The row of an index of the statistics buffer, as an index of one column. -/
def rowOf (i : S512x2.Idx) : S512x1.Idx := fun | 0 => i 0 | 1 => (⟨0, Nat.one_pos⟩ : Fin 1)

/-- The statistics of a block: its row sums in the first column, its row sums of squares in the second. -/
def stats (X : Vec F S512x256 .bf16) : S512x2.Idx → Elt F .f32 :=
  fun i => if (i 1).val = 0 then k0_pay3 X (rowOf i) else k0_pay4 X (rowOf i)

theorem rowOf_col0 (x : S512x1.Idx) : rowOf (col0.emb x) = x :=
  funext fun a => Fin.ext (by
    fin_cases a
    · show 0 + 1 * (x 0).val = (x 0).val; omega
    · have : (x 1).val < 1 := (x 1).isLt
      exact (Nat.lt_one_iff.mp this).symm)
theorem rowOf_col1 (x : S512x1.Idx) : rowOf (col1.emb x) = x :=
  funext fun a => Fin.ext (by
    fin_cases a
    · show 0 + 1 * (x 0).val = (x 0).val; omega
    · have : (x 1).val < 1 := (x 1).isLt
      exact (Nat.lt_one_iff.mp this).symm)

theorem stats_col0 (X : Vec F S512x256 .bf16) (x : S512x1.Idx) : stats X (col0.emb x) = k0_pay3 X x := by
  have h : ((col0.emb x) 1).val = 0 := by
    have : (x 1).val < 1 := (x 1).isLt
    show 0 + 1 * (x 1).val = 0; omega
  unfold stats; rw [if_pos h, rowOf_col0]
theorem stats_col1 (X : Vec F S512x256 .bf16) (x : S512x1.Idx) : stats X (col1.emb x) = k0_pay4 X x := by
  have h : ¬ ((col1.emb x) 1).val = 0 := by
    show ¬ (1 + 1 * (x 1).val = 0); omega
  unfold stats; rw [if_neg h, rowOf_col1]

/-- The two column stores leave the statistics, whatever the buffer held. -/
theorem stats_stored (X : Vec F S512x256 .bf16) (f : (cc0_scratch0 : Ref sig .tc).ty.Contents (Elt F)) :
    (statM.access col1 : View sig .tc _ _ _).write (Elt F)
      ((statM.access col0 : View sig .tc _ _ _).write (Elt F) f (k0_pay3 X) Finset.univ) (k0_pay4 X) Finset.univ = stats X :=
  funext fun y => View.read_writes_apply_of_pieces (View.whole cc0_scratch0) f (stats X)
    [⟨col1, k0_pay4 X⟩, ⟨col0, k0_pay3 X⟩]
    (fun p hp => by
      rcases List.mem_cons.mp hp with rfl | hp
      · exact fun x => (stats_col1 X x).symm
      · rw [List.mem_singleton] at hp; subst hp
        exact fun x => (stats_col0 X x).symm)
    y (View.cover_of_tiled _ ![512, 1] rfl y)

/-- Reading a column of a statistics buffer, own or landed. -/
theorem own_col0 (X : Vec F S512x256 .bf16) : statM.view.readAt (Elt F) col0.toLoadRect (stats X) = k0_pay3 X := funext (stats_col0 X)
theorem own_col1 (X : Vec F S512x256 .bf16) : statM.view.readAt (Elt F) col1.toLoadRect (stats X) = k0_pay4 X := funext (stats_col1 X)
theorem far_col0 (X : Vec F S512x256 .bf16) : landM.view.readAt (Elt F) col0.toLoadRect (stats X) = k0_pay3 X := funext (stats_col0 X)
theorem far_col1 (X : Vec F S512x256 .bf16) : landM.view.readAt (Elt F) col1.toLoadRect (stats X) = k0_pay4 X := funext (stats_col1 X)

/-- A copy of the whole statistics buffer leaves in the landing buffer what the source held. -/
theorem landed_eq (fd : (cc0_scratch1 : Ref sig .tc).ty.Contents (Elt F)) (fs : (cc0_scratch0 : Ref sig .tc).ty.Contents (Elt F)) :
    landM.view.write (Elt F) fd (statM.view.read (Elt F) fs) Finset.univ = fs := by
  show (View.whole cc0_scratch1).write (Elt F) fd ((View.whole cc0_scratch0).read (Elt F) fs) Finset.univ = fs
  rw [View.read_whole]; exact View.write_whole_univ _ _ _

/-- The block of the result the body stores on device `c`: from its own statistics and its partner's. -/
def result (c : Dev nD) : Vec F S512x256 .bf16 :=
  k0_pay1 (k0_pay2 (xin m c)) (k0_pay3 (xin m c)) (k0_pay3 (xin m (partner c))) (k0_pay4 (xin m c)) (k0_pay4 (xin m (partner c)))
    (gin m c) (bin m c)

/-! ## Buffers held -/

/-- Device `c`'s buffer `b`, held at share `q` with contents `f`. -/
abbrev has (c : Dev nD) (b : Ref sig .tc) (q : PosShare TreeShare) (f : b.ty.Contents (Elt F)) : sProp 𝕄 :=
  ((c : Thread nD τ).loc b) ↦{q} f

/-- Its landing buffer, and share `q` of its statistics, as a copy names them. -/
def landing (c : Dev nD) (f : Buf (Elt F) (landM.view.loc (c : Thread nD τ))) : sProp 𝕄 :=
  landM.view.loc (c : Thread nD τ) ↦[landM.view.set]{fullShare} f
def source (c : Dev nD) (q : PosShare TreeShare) : sProp 𝕄 :=
  statM.view.loc (c : Thread nD τ) ↦[statM.view.set]{q} stats (xin m c)

theorem landing_eq (c : Dev nD) (f : (cc0_scratch1 : Ref sig .tc).ty.Contents (Elt F)) : landing c f = has c cc0_scratch1 fullShare f := by
  unfold landing; rw [show landM.view.set = Finset.univ from View.set_whole _]
theorem source_eq (c : Dev nD) (q : PosShare TreeShare) : source m c q = has c cc0_scratch0 q (stats (xin m c)) := by
  unfold source; rw [show statM.view.set = Finset.univ from View.set_whole _]

instance landing_storable (c : Dev nD) (f) : BI.Storable (upEmb : UEmb _ 𝕄) (landing (F := F) c f) := by unfold landing; infer_instance
instance source_storable (c : Dev nD) (q) : BI.Storable (upEmb : UEmb _ 𝕄) (source (F := F) m c q) := by unfold source; infer_instance

/-! ## Who pays what -/

/-- What the partner's signal brings `c`. -/
def readyPay (c : Dev nD) : sProp 𝕄 := iprop((∃ f, landing (partner c) f) ∗ reached ledger (got (partner c)) 0)
/-- What the partner's copy brings `c`. -/
def gotPay (c : Dev nD) : sProp 𝕄 := landing c (stats (xin m (partner c)))
/-- What `c`'s own copy gives back to it. -/
def sentPay (c : Dev nD) : sProp 𝕄 := source m c fullShare.right

/-- One payment on each semaphore, in its first round; none later. -/
def plan : Rounds.Schedule (GSem nD τ sig) Unit 𝕄 where
  duties _ r := if r = 0 then {()} else ∅
  unitless _ := False
  amount g _ _ := match g.2 with | .reg _ => 1 | .dma _ => load
  payload g _ _ := match g.2 with
    | .reg _ => readyPay g.1.1
    | .dma s => if s = gotSem then gotPay m g.1.1 else sentPay m g.1.1
  amount_pos g _ _ _ := by
    cases g.2 with
    | reg _ => exact Nat.one_pos
    | dma _ => exact load_pos

instance plan_storable (g : GSem nD τ sig) (r : ℕ) (d : Unit) : BI.Storable (upEmb : UEmb _ 𝕄) ((plan (F := F) m).payload g r d) := by
  obtain ⟨t, s⟩ := g
  cases s with
  | reg s => show BI.Storable upEmb (readyPay t.1); unfold readyPay; infer_instance
  | dma s =>
    show BI.Storable upEmb (if s = gotSem then gotPay m t.1 else sentPay m t.1)
    unfold gotPay sentPay; split <;> infer_instance

theorem due (g : GSem nD τ sig) : () ∈ (plan (F := F) m).duties g 0 := Finset.mem_singleton_self ()
theorem none_later (g : GSem nD τ sig) : ∀ r, 1 ≤ r → (plan (F := F) m).duties g r = ∅ := fun r hr => if_neg (by omega)
theorem pay_sent (c : Dev nD) (u : Unit) : (plan (F := F) m).payload (sent c) 0 u = sentPay m c := by
  show (if sentSem = gotSem then gotPay m c else sentPay m c) = _
  exact if_neg sent_ne_got
theorem pay_got (c : Dev nD) (u : Unit) : (plan (F := F) m).payload (got c) 0 u = gotPay m c := by
  show (if gotSem = gotSem then gotPay m c else sentPay m c) = _
  exact if_pos rfl

theorem expects (g : GSem nD τ sig) : (plan (F := F) m).expect g 0 = (plan (F := F) m).amount g 0 () :=
  Finset.sum_singleton (fun d => (plan (F := F) m).amount g 0 d) ()
theorem whole (g : GSem nD τ sig) :
    bigSep ((plan (F := F) m).duties g 0 \ ∅) (fun u => (plan (F := F) m).payload g 0 u) = (plan (F := F) m).payload g 0 () := by
  rw [Finset.sdiff_empty, show (plan (F := F) m).duties g 0 = {()} from rfl, bigSep_singleton]

/-- What `c` owes when it starts: the copy into its partner's landing buffer, and the signal to its partner. -/
def debt (c : Dev nD) : CellTallies nD τ sig Unit := tallyAt (got (partner c)) () load + tallyAt (ready (partner c)) () 1

/-- The order in which one may wait: the ready semaphores below the receive semaphores, everything else below both. -/
def scope (g : GSem nD τ sig) : Finset Unit := if g.1.2 = .tc then {()} else ∅
def level (g : GSem nD τ sig) (_ : Unit) : ℕ := match g.2 with | .reg _ => 1 | .dma s => if s = gotSem then 2 else 0

theorem scope_tc (c : Dev nD) (s : SemLoc sig) : scope ((c : Thread nD τ), s) = {()} := if_pos rfl
theorem scope_other (g : GSem nD τ sig) (h : g.1.2 ≠ .tc) : scope g = ∅ := if_neg h
theorem level_got (c : Dev nD) : level (got c) () = 2 := by
  show (if gotSem = gotSem then 2 else 0) = 2
  exact if_pos rfl

/-- One may wait on one's ready semaphore while still owing the copy. -/
theorem may_wait_ready (c : Dev nD) :
    (levAts scope level : sProp 𝕄) ⊢ MayWait (c : Thread nD τ) (.reg readySem) () (tallyAt (got (partner c)) () load) := by
  have only : ∀ (g : GSem nD τ sig) (u : Unit), 0 < (tallyAt (got (partner c)) () load : CellTallies nD τ sig Unit) g u → g = got (partner c) := by
    intro g u h
    by_contra hne
    rw [tallyAt_apply, if_neg (fun h' => hne h'.1)] at h
    exact Nat.lt_irrefl 0 h
  refine MayOwe.of_cut (L := scope) (lev := level) 1 ?_ ?_ ?_ ?_
  · intro p hp; rw [Finset.mem_singleton.mp hp, scope_tc]; exact Finset.mem_singleton_self _
  · intro g u h; rw [only g u h, scope_tc]; exact Finset.mem_singleton_self _
  · intro p hp; rw [Finset.mem_singleton.mp hp]; exact Nat.le_refl 1
  · intro g u h; rw [only g u h, level_got]; decide

/-! ## What a device holds of the exchange -/

/-- The rules of the five semaphores device `c` touches: its own three, its partner's ready and receive semaphores. -/
def rules (K : GSem nD τ sig → ℕ) (c : Dev nD) : sProp 𝕄 :=
  iprop(cellInv ledger (plan m) (K (ready c)) (ready c) ∗ cellInv ledger (plan m) (K (sent c)) (sent c)
    ∗ cellInv ledger (plan m) (K (got c)) (got c) ∗ cellInv ledger (plan m) (K (ready (partner c))) (ready (partner c))
    ∗ cellInv ledger (plan m) (K (got (partner c))) (got (partner c)))

instance rules_persistent (K : GSem nD τ sig → ℕ) (c : Dev nD) : BI.Persistent (rules m K c) := by unfold rules; infer_instance

/-- The three payments device `c` is to make. -/
def tokens (c : Dev nD) : sProp 𝕄 :=
  iprop(dutyTok ledger (ready (partner c)) 0 () ∗ dutyTok ledger (got (partner c)) 0 () ∗ dutyTok ledger (sent c) 0 ())

/-- The exchange open on device `c`, nothing paid yet. -/
def opened (K : GSem nD τ sig → ℕ) (c : Dev nD) : sProp 𝕄 :=
  iprop(rules m K c ∗ (atPos ledger (ready c) 0 ∅ 0 ∗ atPos ledger (sent c) 0 ∅ 0 ∗ atPos ledger (got c) 0 ∅ 0)
    ∗ (reached ledger (ready (partner c)) 0 ∗ reached ledger (sent c) 0 ∗ reached ledger (got c) 0) ∗ tokens c)

/-- The units `c` may count on receiving. -/
def promised (c : Dev nD) : sProp 𝕄 := iprop(cred (tallyAt (ready c) () 1) ∗ cred (tallyAt (got c) () load))

theorem closes (κ : ℕ) (g : GSem nD τ sig) :
    iprop(cellInv ledger (plan m) κ g ∗ atPos ledger g (0 + 1) ∅ 0) ⊢ (|={Set.univ}=> semVal g 0 : sProp 𝕄) :=
  Rounds.cell_close ledger (plan m) (Set.mem_univ κ) id (none_later m g)

/-! ## The body -/

abbrev 𝒱₀ : Variants := Variants.none

/-- The body's four staged blocks on device `c`. -/
def staged (c : Dev nD) (y : Vec F S512x256 .bf16) : sProp 𝕄 :=
  iprop(has c cc0_stg0_0 fullShare (xin m c) ∗ has c cc0_stg1_0 fullShare (gin m c) ∗ has c cc0_stg2_0 fullShare (bin m c)
    ∗ has c cc0_stg3_0 fullShare y)

def bodyPre (K : GSem nD τ sig → ℕ) (c : Dev nD) (W : Waits sig Unit) : sProp 𝕄 :=
  iprop(opened m K c ∗ promised c ∗ levAts scope level ∗ (∃ f, has c cc0_scratch0 fullShare f) ∗ (∃ f, has c cc0_scratch1 fullShare f)
    ∗ (∃ y, staged m c y) ∗ owes (c : Thread nD τ) (debt c) W)

def bodyPost (c : Dev nD) : sProp 𝕄 :=
  iprop((semVal (ready c) 0 ∗ semVal (sent c) 0 ∗ semVal (got c) 0)
    ∗ has c cc0_scratch0 fullShare (stats (xin m c)) ∗ has c cc0_scratch1 fullShare (stats (xin m (partner c)))
    ∗ staged m c (result m c) ∗ ∃ W, owes (c : Thread nD τ) (0 : CellTallies nD τ sig Unit) W)

theorem zeros : (![0, 0] : Fin 2 → ℕ) = fun _ => 0 := funext fun a => by fin_cases a <;> rfl

/-- The copy of the statistics, from half of them, to a device `n` known to be the partner. -/
theorem wp_copy (K : GSem nD τ sig → ℕ) (c n : Dev nD) (hn : n = partner c)
    {hsc : (landM : Memref sig (Dev.tc n : Thread nD τ).2.kind .vmem S512x2 .f32).view.ref.isScScratch = false}
    {hsrc : statM.view.WordExact} {hdst : landM.view.WordExact}
    {hsem : DmaTarget.Typed .vmem (.dma gotSem) (.remote (Dev.tc n : Thread nD τ) (landM : Memref sig (Dev.tc n : Thread nD τ).2.kind .vmem S512x2 .f32) (.dma sentSem) hsc)}
    {α : Type} {Q : α → sProp 𝕄} {k : PUnit → Prog (TpuEff nD τ sig (Elt F) Λ₀ .tc) α}
    (fn : Buf (Elt F) (landM.view.loc (partner c : Thread nD τ))) (W : Waits sig Unit) :
    iprop(cellInv ledger (plan m) (K (sent c)) (sent c) ∗ cellInv ledger (plan m) (K (got (partner c))) (got (partner c))
        ∗ source m c fullShare.right ∗ landing (partner c) fn
        ∗ owes (c : Thread nD τ) (tallyAt (got (partner c)) () load) W
        ∗ dutyTok ledger (sent c) 0 () ∗ reached ledger (sent c) 0
        ∗ dutyTok ledger (got (partner c)) 0 () ∗ reached ledger (got (partner c)) 0)
      ⊢ iprop(((cred (tallyAt (sent c) () load) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma statM (.remote (Dev.tc n : Thread nD τ) landM (.dma sentSem) hsc) (.dma gotSem) hsrc hdst hsem) k) Q) := by
  subst hn
  unfold source landing
  exact Rounds.wp_send_pointsTo 𝒱₀ ledger (plan m) (c : Thread nD τ) none (κ₁ := K (sent c)) (κ₂ := K (got (partner c)))
    (r₁ := 0) (r₂ := 0) (d₁ := ()) (d₂ := ()) (fd := fn) (due m _) (due m _) () () load rfl rfl rfl 0 (by rw [zero_add]) (W := W)
    (by rw [pay_sent]; exact BI.Entails.refl _)
    (by rw [pay_got]; unfold gotPay landing; rw [landed_eq, partner_partner])

/-- Waiting for a copy's semaphore while owing nothing: what the copy pays comes with it. -/
theorem wp_await (K : GSem nD τ sig → ℕ) (c : Dev nD) (s : DmaSem sig) {n : ℕ} (hn : n = load) {w : TpuEff nD τ sig (Elt F) Λ₀ .tc PUnit}
    (hw : ∀ X : PUnit → sProp 𝕄, wpE (defs₀ (F := F)) 𝒱₀ (c : Thread nD τ) none Set.univ w X
      = waitSpec (c : Thread nD τ) Set.univ (.dma s) n X)
    {α : Type} {Q : α → sProp 𝕄} {k : PUnit → Prog (TpuEff nD τ sig (Elt F) Λ₀ .tc) α} (W : Waits sig Unit) :
    iprop(cellInv ledger (plan m) (K ((c : Thread nD τ), .dma s)) ((c : Thread nD τ), .dma s)
        ∗ cred (tallyAt ((c : Thread nD τ), .dma s) () load) ∗ owes (c : Thread nD τ) 0 W
        ∗ atPos ledger ((c : Thread nD τ), .dma s) 0 ∅ 0)
      ⊢ iprop(((owes (c : Thread nD τ) 0 (insert (.dma s, ()) W) ∗ atPos ledger ((c : Thread nD τ), .dma s) (0 + 1) ∅ 0
              ∗ (plan m).payload ((c : Thread nD τ), .dma s) 0 ())
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hn
  iintro ⟨#HI, Hc, HO, Hat⟩ Hk
  iapply (Rounds.wp_wait_rest_token 𝒱₀ ledger (plan m) (c : Thread nD τ) none (κ := K ((c : Thread nD τ), .dma s)) hw (Set.mem_univ _) ()
      (O := 0) (W := W) (R := 0) (m := 0) (T := ∅) ((Nat.zero_add _).trans (expects m ((c : Thread nD τ), .dma s)).symm) (k' := load)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (whole m ((c : Thread nD τ), .dma s))) $$ Hpay
  iapply Hk
  isplitl [HO]; · iexact HO
  isplitl [Hat] <;> iassumption

/-- The statistics buffer in its two halves. -/
theorem halves (c : Dev nD) : has c cc0_scratch0 fullShare (stats (xin m c)) ⊣⊢ iprop(source m c fullShare.left ∗ source m c fullShare.right) := by
  rw [source_eq, source_eq]; exact pointsTo_share (PosShare.mem_left_op_right fullShare)

abbrev xM : Memref sig .tc .vmem S512x256 .bf16 := Memref.whole cc0_stg0_0
abbrev gM : Memref sig .tc .vmem S1x256 .bf16 := Memref.whole cc0_stg1_0
abbrev bM : Memref sig .tc .vmem S1x256 .bf16 := Memref.whole cc0_stg2_0
abbrev outM : Memref sig .tc .vmem S512x256 .bf16 := Memref.whole cc0_stg3_0
/-- The whole of a block, and of a row. -/
abbrev block : Rect S512x256 := Rect.unit (s := S512x256) ![0, 0] S512x256.size inb_S512x256_S512x256_0_0
abbrev row : Rect S1x256 := Rect.unit (s := S1x256) ![0, 0] S1x256.size inb_S1x256_S1x256_0_0

/-- Reading a staged block reads its contents. -/
theorem read_x (f : Vec F S512x256 .bf16) : xM.view.readAt (Elt F) block.toLoadRect f = f := Memref.readAt_unit_zero (Elt F) cc0_stg0_0 zeros _ f
theorem read_g (f : Vec F S1x256 .bf16) : gM.view.readAt (Elt F) row.toLoadRect f = f := Memref.readAt_unit_zero (Elt F) cc0_stg1_0 zeros _ f
theorem read_b (f : Vec F S1x256 .bf16) : bM.view.readAt (Elt F) row.toLoadRect f = f := Memref.readAt_unit_zero (Elt F) cc0_stg2_0 zeros _ f

/-- The result store replaces the whole block. -/
theorem stored_eq (f : (cc0_stg3_0 : Ref sig .tc).ty.Contents (Elt F)) (w : Vec F S512x256 .bf16) :
    (outM.access block : View sig .tc _ _ _).write (Elt F) f w Finset.univ = w := Memref.write_access_unit_zero_univ (Elt F) cc0_stg3_0 zeros _ f w

set_option maxHeartbeats 1600000 in
/-- The body runs: one rule per operation, in the order of the program. -/
theorem body_runs (K : GSem nD τ sig → ℕ) (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre opened rules tokens promised staged
  iintro ⟨⟨⟨⟨#HIr, #HIs, #HIg, #HIrP, #HIgP⟩, ⟨Har, Has, Hag⟩, ⟨#HrP, #HrS, #HrG⟩, HtR, HtG, HtS⟩, ⟨HcR, HcG⟩, #Hlev, ⟨%f0, Hst⟩, ⟨%f1, Hl⟩,
    ⟨%y, Hx, Hg, Hb, Ho⟩, HO⟩, Hk⟩
  simp only [signalled_eq c]
  -- the signal to the partner: the own landing buffer goes with it
  iapply (Rounds.wp_signal 𝒱₀ ledger (plan m) (c : Thread nD τ) none (dst := (partner c : Thread nD τ)) (κ := K (ready (partner c)))
      (d := ()) (due m _) rfl () (tallyAt (got (partner c)) () load) rfl) $$ [HO HtR Hl]
  · isplitr; · iexact HIrP
    isplitl [HO]; · iexact HO
    isplitl [HtR]; · iexact HtR
    isplitl [Hl]
    · rw [show (plan (F := F) m).payload (ready (partner c)) 0 () = readyPay (partner c) from rfl]
      unfold readyPay; rw [partner_partner]
      isplitl [Hl]; · iexists f1; rw [landing_eq]; iexact Hl
      iexact HrG
    · iexact HrP
  iintro HO
  -- the block is read, and its statistics written column by column
  iapply (wp_load 𝒱₀ (c : Thread nD τ) none Set.univ (m := xM) (Finset.subset_univ _)) $$ Hx; iintro Hx
  rw [read_x]
  iapply (wp_load 𝒱₀ (c : Thread nD τ) none Set.univ (m := statM) (Finset.subset_univ _)) $$ Hst; iintro Hst
  iapply (wp_store 𝒱₀ (c : Thread nD τ) none Set.univ (m := statM) (r := col0) (Mk := Finset.univ) (Finset.subset_univ _)) $$ Hst; iintro Hst
  iapply (wp_load 𝒱₀ (c : Thread nD τ) none Set.univ (m := statM) (Finset.subset_univ _)) $$ Hst; iintro Hst
  iapply (wp_store 𝒱₀ (c : Thread nD τ) none Set.univ (m := statM) (r := col1) (Mk := Finset.univ) (Finset.subset_univ _)) $$ Hst; iintro Hst
  rw [stats_stored]
  -- the partner's signal: its landing buffer comes with it
  iapply (Rounds.wp_wait_rest_token 𝒱₀ ledger (plan m) (c : Thread nD τ) none (κ := K (ready c))
      (wpE_semWait_eq 𝒱₀ (c : Thread nD τ) none Set.univ) (Set.mem_univ _) () (O := tallyAt (got (partner c)) () load) (W := W) (R := 0) (m := 0) (T := ∅)
      ((Nat.zero_add 1).trans (expects m (ready c)).symm)) $$ [HcR HO Har]
  · isplitr; · iexact HIr
    isplitl [HcR]; · iexact HcR
    isplitl [HO]; · iexact HO
    isplitr; · iapply (may_wait_ready c); iexact Hlev
    iexact Har
  iintro ⟨HO, Har, -, Hpay⟩
  ihave Hp := (Entails.of_eq ((whole m (ready c)).trans (show _ = readyPay c from rfl))) $$ Hpay
  unfold readyPay
  icases Hp with ⟨⟨%fn, HlP⟩, #HrGP⟩
  -- the copy, from the right half of the statistics
  ihave Hst := (halves m c).1 $$ Hst
  icases Hst with ⟨HstL, HstR⟩
  iapply (wp_copy m K c ⟨k0_dev2 c, k0_dev2_lt c⟩ (addressed_eq c) fn (insert (SemLoc.reg readySem, ()) W)) $$ [HstR HlP HO HtS HtG]
  · isplitr; · iexact HIs
    isplitr; · iexact HIgP
    isplitl [HstR]; · iexact HstR
    isplitl [HlP]; · iexact HlP
    isplitl [HO]; · iexact HO
    isplitl [HtS]; · iexact HtS
    isplitr; · iexact HrS
    isplitl [HtG]; · iexact HtG
    iexact HrGP
  iintro ⟨HcS, HO⟩
  -- the partner's statistics arrive
  iapply (wp_await m K c gotSem rfl (wpE_waitDma2_eq 𝒱₀ (c : Thread nD τ) none Set.univ) (insert (SemLoc.reg readySem, ()) W)) $$ [HcG HO Hag]
  · isplitr; · iexact HIg
    isplitl [HcG]; · iexact HcG
    isplitl [HO]; · iexact HO
    iexact Hag
  iintro ⟨HO, Hag, Hpay⟩
  ihave Hl := (Entails.of_eq ((pay_got m c ()).trans ((show gotPay m c = landing c (stats (xin m (partner c))) from rfl).trans (landing_eq c _)))) $$ Hpay
  ihave HstL := (Entails.of_eq (source_eq m c fullShare.left)) $$ HstL
  -- both buffers are read, then gamma and beta, and the result is stored
  iapply (wp_load 𝒱₀ (c : Thread nD τ) none Set.univ (m := statM) (Finset.subset_univ _)) $$ HstL; iintro HstL
  rw [own_col0]
  iapply (wp_load 𝒱₀ (c : Thread nD τ) none Set.univ (m := landM) (Finset.subset_univ _)) $$ Hl; iintro Hl
  rw [far_col0]
  iapply (wp_load 𝒱₀ (c : Thread nD τ) none Set.univ (m := statM) (Finset.subset_univ _)) $$ HstL; iintro HstL
  rw [own_col1]
  iapply (wp_load 𝒱₀ (c : Thread nD τ) none Set.univ (m := landM) (Finset.subset_univ _)) $$ Hl; iintro Hl
  rw [far_col1]
  iapply (wp_load 𝒱₀ (c : Thread nD τ) none Set.univ (m := gM) (Finset.subset_univ _)) $$ Hg; iintro Hg
  rw [read_g]
  iapply (wp_load 𝒱₀ (c : Thread nD τ) none Set.univ (m := bM) (Finset.subset_univ _)) $$ Hb; iintro Hb
  rw [read_b]
  iapply (wp_load 𝒱₀ (c : Thread nD τ) none Set.univ (m := outM) (Finset.subset_univ _)) $$ Ho; iintro Ho
  iapply (wp_store 𝒱₀ (c : Thread nD τ) none Set.univ (m := outM) (r := block) (Mk := Finset.univ) (Finset.subset_univ _)) $$ Ho; iintro Ho
  rw [stored_eq]
  -- the own copy is done: the other half of the statistics is back
  iapply (wp_await m K c sentSem credits_eq (wpE_waitDma2_eq 𝒱₀ (c : Thread nD τ) none Set.univ)
    (insert (SemLoc.dma gotSem, ()) (insert (SemLoc.reg readySem, ()) W))) $$ [HcS HO Has]
  · isplitr; · iexact HIs
    isplitl [HcS]; · iexact HcS
    isplitl [HO]; · iexact HO
    iexact Has
  iintro ⟨HO, Has, Hpay⟩
  ihave HstR := (Entails.of_eq ((pay_sent m c ()).trans (show sentPay m c = source m c fullShare.right from rfl))) $$ Hpay
  ihave HstL := (Entails.of_eq (source_eq m c fullShare.left).symm) $$ HstL
  ihave Hst := (halves m c).2 $$ [HstL HstR]
  · isplitl [HstL] <;> iassumption
  -- the exchange is over: its three semaphores are closed at zero
  rw [wp_ret]
  imod (closes m (K (ready c)) (ready c)) $$ [Har] with Hr0
  · isplitr; · iexact HIr
    iexact Har
  imod (closes m (K (sent c)) (sent c)) $$ [Has] with Hs0
  · isplitr; · iexact HIs
    iexact Has
  imod (closes m (K (got c)) (got c)) $$ [Hag] with Hg0
  · isplitr; · iexact HIg
    iexact Hag
  imodintro
  iapply Hk
  unfold bodyPost staged
  isplitl [Hr0 Hs0 Hg0]
  · isplitl [Hr0]; · iexact Hr0
    isplitl [Hs0] <;> iassumption
  isplitl [Hst]; · iexact Hst
  isplitl [Hl]; · iexact Hl
  isplitl [Hx Hg Hb Ho]
  · isplitl [Hx]; · iexact Hx
    isplitl [Hg]; · iexact Hg
    isplitl [Hb]; · iexact Hb
    iexact Ho
  iexists _; iexact HO

end Cert.KernelIdeal.Swap

end
-- ==== Proof.KernelIdealRun.lean ====
/-
The program run from a launch: the host's two reshapes, then the kernel on all four devices.

`KernelIdealSwap` follows one device through the exchange. Here the exchange is set up for all devices at once (every semaphore's
rules made, the tokens of the payments dealt to those who make them), the kernel's region is given its data, and the whole program
is run: each device's result holds `Swap.result`, the arguments are as they were, every semaphore is back at zero.
-/
module

public import proofs.«01_k».proof.Proof.KernelIdealSwap

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ledgers ℕ

variable (m : (ℓ : Loc nD τ sig) → Buf (Elt F) ℓ) (ρ : Dev nD → PrngReg)

/-! ## The buffers before and after -/

/-- Device `c`'s buffers at launch, after the reshapes, and after the kernel. -/
def atLaunch (c : Dev nD) : Valuation τ sig (Elt F) := fun b => m (c, b)
def atEntry (c : Dev nD) : Valuation τ sig (Elt F) := StableHlo.after hostOps0 (atLaunch m c)
def atExit (c : Dev nD) : Valuation τ sig (Elt F) := Function.update (atEntry m c) (Proc.devRef .tc main_v3) (result m c)

theorem exit_result (c : Dev nD) : atExit m c (Proc.devRef .tc main_v3) = result m c := Function.update_self ..
theorem exit_other (c : Dev nD) (b : Ref sig .tc) (h : b ≠ main_v3) : atExit m c (Proc.devRef .tc b) = atEntry m c (Proc.devRef .tc b) :=
  Function.update_of_ne (StableHlo.devRef_ne_of_ne h) ..

/-- The unscoped buffers, and those among them no window moves. -/
abbrev plain : Finset (DevRef τ sig) := Pipeline.ucRefs τ sig
abbrev aside : Finset (DevRef τ sig) := plain \ Pipeline.arrRefs (τ := τ) spec0

theorem plain_eq (c : Dev nD) (W : Valuation τ sig (Elt F)) : (StableHlo.held (c : Thread nD τ) plain W : sProp 𝕄)
    = iprop(has c main_arg0 fullShare (W (Proc.devRef .tc main_arg0)) ∗ has c main_arg1 fullShare (W (Proc.devRef .tc main_arg1))
      ∗ has c main_arg2 fullShare (W (Proc.devRef .tc main_arg2)) ∗ has c main_v1 fullShare (W (Proc.devRef .tc main_v1))
      ∗ has c main_v2 fullShare (W (Proc.devRef .tc main_v2)) ∗ has c main_v3 fullShare (W (Proc.devRef .tc main_v3))) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide)]
  rfl

theorem arrays_plain : Pipeline.arrRefs (τ := τ) spec0 ⊆ plain := Pipeline.arrRefs_sub_ucRefs spec0 (by decide)

theorem aside_not_result (b : DevRef τ sig) (hb : b ∈ aside) : b ≠ Proc.devRef .tc main_v3 := by
  rintro rfl
  exact (Finset.mem_sdiff.mp hb).2 (Finset.mem_map_of_mem _ (Finset.mem_image.mpr ⟨3, Finset.mem_univ _, rfl⟩))

/-! ## The kernel's region -/

/-- What the exchange brings to the region, beside the scratch buffers; and what it leaves. -/
def carried (c : Dev nD) : sProp 𝕄 := iprop((∃ K, opened m K c) ∗ promised c ∗ levAts scope level)
def quietSems (c : Dev nD) : sProp 𝕄 := iprop(semVal (sent c) 0 ∗ semVal (got c) 0)

/-- The scratch buffers and the generator register, at contents not named. -/
def scratch (c : Dev nD) : sProp 𝕄 :=
  iprop(((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)) ∗ ∃ r, prngReg c r)

/-- Before the region's one point, and after it: what the region keeps, and what the device owes. -/
def kept (c : Dev nD) : ℕ → sProp 𝕄
  | 0 => iprop(carried m c ∗ scratch c)
  | _ + 1 => iprop(semVal (ready c) 0 ∗ quietSems c ∗ scratch c)
def owing (c : Dev nD) : ℕ → CellTallies nD τ sig Unit
  | 0 => debt c
  | _ + 1 => 0

/-- The region's data on device `c`: the inputs as found, the result stored; the debts of the exchange before, nothing after. -/
def data (c : Dev nD) : Dat τ (Elt F) Unit ℕ Ledgers ℕ cfg0 c where
  A w := atEntry m c (Proc.devRef .tc (Pipeline.arrRef spec0 w))
  after w t := match w with
    | 0 => iblk m c 0 t
    | 1 => iblk m c 1 t
    | 2 => iblk m c 2 t
    | 3 => result m c
  Φ t := kept m c t.val
  q _ := fullShare
  owed t := owing c t.val

abbrev adm : (p : Fin 1) → (pcfgs (F := F) p).Adm := fun p => (cfgs p).toPCfg_adm
def datas : (p : Fin 1) → (c : Dev nD) → Dat τ (Elt F) Unit ℕ Ledgers ℕ (Pipeline.pin (pcfgs (F := F)) adm p) c
  | 0 => data m

theorem inv_first (c : Dev nD) : (data m c).Φ t0_0.castSucc = iprop(carried m c ∗ scratch c) := rfl
theorem inv_last (c : Dev nD) : (data m c).Φ t0_0.succ = iprop(semVal (ready c) 0 ∗ quietSems c ∗ scratch c) := rfl
theorem owed_first (c : Dev nD) : (data m c).owed t0_0.castSucc = debt c := rfl
theorem owed_last (c : Dev nD) : (data m c).owed t0_0.succ = 0 := rfl

theorem found_0 (c : Dev nD) (d) : (data m c).before 0 t0_0 d = xin m c := by unfold Dat.before; rw [if_pos (fetch0_0 t0_0)]; rfl
theorem found_1 (c : Dev nD) (d) : (data m c).before 1 t0_0 d = gin m c := by unfold Dat.before; rw [if_pos (fetch0_1 t0_0)]; rfl
theorem found_2 (c : Dev nD) (d) : (data m c).before 2 t0_0 d = bin m c := by unfold Dat.before; rw [if_pos (fetch0_2 t0_0)]; rfl

theorem owns_whole (c : Dev nD) (b : Ref sig .tc) (X : b.ty.shape.Idx → Elt F b.ty.elt) :
    (owns (c : Thread nD τ) (Memref.whole b) fullShare X : sProp 𝕄) = iprop(∃ f, ⌜f = X⌝ ∗ has c b fullShare f) := by
  unfold owns; simp only [Memref.view_whole, View.read_whole, View.set_whole]

theorem owes_out (c : Dev nD) (t : Fin (cfg0.N + 1)) (O : CellTallies nD τ sig Unit) (h : (data m c).owed t = O) :
    ((data m c).owesAt () t : sProp 𝕄) ⊢ iprop(∃ W, owes (c : Thread nD τ) O W) := by
  unfold Dat.owesAt Pipeline.owesWithin; rw [h]
  iintro ⟨%W, -, HO⟩; iexists W; iexact HO
theorem owes_in (c : Dev nD) (t : Fin (cfg0.N + 1)) (O : CellTallies nD τ sig Unit) (h : (data m c).owed t = O) (W : Waits sig Unit) :
    (owes (c : Thread nD τ) O W : sProp 𝕄) ⊢ ((data m c).owesAt () t : sProp 𝕄) := by
  unfold Dat.owesAt Pipeline.owesWithin Dat.bound; rw [h]
  iintro HO; iexists W; isplitr; · ipureintro; exact fun _ _ => Or.inl trivial
  iexact HO

/-- One staged buffer given back at what the data name. -/
theorem give (c : Dev nD) (b : Ref sig .tc) (X : b.ty.shape.Idx → Elt F b.ty.elt) :
    (has c b fullShare X : sProp 𝕄) ⊢ iprop(∃ f, ⌜f = X⌝ ∗ has c b fullShare f) := by
  iintro H; iexists X; isplitr; · ipureintro; rfl
  iexact H

/-- The region's one point is the body. -/
theorem body_at (c : Dev nD) : BodyObligation (data (F := F) m c) defs₀ 𝒱₀ () Set.univ := fun t => by
  obtain rfl := fin_N0 t
  rw [bigSep_W0, bigSep_W0, inv_first, inv_last]
  show iprop((carried m c ∗ scratch c) ∗ (data m c).owesAt () t0_0.castSucc
      ∗ (∃ d, owns (c : Thread nD τ) (Memref.whole cc0_stg0_0) fullShare ((data m c).before 0 t0_0 d))
      ∗ (∃ d, owns (c : Thread nD τ) (Memref.whole cc0_stg1_0) fullShare ((data m c).before 1 t0_0 d))
      ∗ (∃ d, owns (c : Thread nD τ) (Memref.whole cc0_stg2_0) fullShare ((data m c).before 2 t0_0 d))
      ∗ (∃ d, owns (c : Thread nD τ) (Memref.whole cc0_stg3_0) fullShare ((data m c).before 3 t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) (Memref.whole cc0_scratch1) (Memref.isWhole_whole _)
        cc0_scratch2 cc0_scratch3)
      fun _ => iprop((semVal (ready c) 0 ∗ quietSems c ∗ scratch c) ∗ (data m c).owesAt () t0_0.succ
        ∗ owns (c : Thread nD τ) (Memref.whole cc0_stg0_0) fullShare (xin m c)
        ∗ owns (c : Thread nD τ) (Memref.whole cc0_stg1_0) fullShare (gin m c)
        ∗ owns (c : Thread nD τ) (Memref.whole cc0_stg2_0) fullShare (bin m c)
        ∗ owns (c : Thread nD τ) (Memref.whole cc0_stg3_0) fullShare (result m c))
  simp only [owns_whole, found_0, found_1, found_2]
  unfold carried scratch
  iintro ⟨⟨⟨⟨%K, Hex⟩, Hcr, Hlev⟩, ⟨Hs, Hl⟩, Hreg⟩, HO, ⟨%d0, %g0, %e0, Hx⟩, ⟨%d1, %g1, %e1, Hg⟩, ⟨%d2, %g2, %e2, Hb⟩, ⟨%d3, %g3, -, Ho⟩⟩
  subst e0; subst e1; subst e2
  ihave HO := (owes_out m c t0_0.castSucc (debt c) (owed_first m c)) $$ HO
  icases HO with ⟨%W, HO⟩
  iapply (body_runs m K c W _)
  isplitl [Hex Hcr Hlev Hs Hl Hx Hg Hb Ho HO]
  · unfold bodyPre staged
    isplitl [Hex]; · iexact Hex
    isplitl [Hcr]; · iexact Hcr
    isplitl [Hlev]; · iexact Hlev
    isplitl [Hs]; · iexact Hs
    isplitl [Hl]; · iexact Hl
    isplitl [Hx Hg Hb Ho]
    · iexists g3
      isplitl [Hx]; · iexact Hx
      isplitl [Hg]; · iexact Hg
      isplitl [Hb]; · iexact Hb
      iexact Ho
    iexact HO
  unfold bodyPost staged quietSems
  iintro ⟨⟨Hr0, Hs0, Hg0⟩, Hs, Hl, ⟨Hx, Hg, Hb, Ho⟩, ⟨%W', HO⟩⟩
  isplitl [Hr0 Hs0 Hg0 Hs Hl Hreg]
  · isplitl [Hr0]; · iexact Hr0
    isplitl [Hs0 Hg0]; · isplitl [Hs0] <;> iassumption
    isplitr [Hreg]
    · isplitl [Hs]
      · iexists _; iexact Hs
      iexists _; iexact Hl
    iexact Hreg
  isplitl [HO]; · iapply (owes_in m c t0_0.succ 0 (owed_last m c) W'); iexact HO
  isplitl [Hx]; · iapply (give c cc0_stg0_0 (xin m c)); iexact Hx
  isplitl [Hg]; · iapply (give c cc0_stg1_0 (gin m c)); iexact Hg
  isplitl [Hb]; · iapply (give c cc0_stg2_0 (bin m c)); iexact Hb
  iapply (give c cc0_stg3_0 (result m c)); iexact Ho

/-- The result array after the region is the block stored: the one block is the whole array. -/
theorem array_result (c : Dev nD) : (data m c).arrAt 3 cfg0.N = result m c := by
  have hz : (fun a => win0_3.index t0_0 a * main_v3.ty.shape.size a) = fun _ => 0 := funext fun a => by fin_cases a <;> decide
  have hr := fun f => Memref.read_access_unit_zero (Elt F) main_v3 hz (fun a => by fin_cases a <;> decide) f
  have h : (win0_3.blk t0_0).view.read (Elt F) ((data m c).arrAt 3 cfg0.N) = result m c := by
    rw [show cfg0.N = (t0_0 : Fin cfg0.N).val + 1 from by decide, (data m c).arrAt_succ (3 : Fin 4) t0_0, if_pos (flush0_3 t0_0)]
    exact View.read_write_univ _ _
  exact (hr _).symm.trans h

theorem array_input (c : Dev nD) (w : Fin 4) (h : (cfg0.win w).isOut = false) (n : ℕ) :
    (data m c).arrAt w n = atEntry m c (Proc.devRef .tc (Pipeline.arrRef spec0 w)) := (data m c).arrAt_in w h n

/-! ### Entering and leaving the region -/

abbrev own : Fin 2 → SemLoc sig := fun | 0 => .dma sentSem | 1 => .dma gotSem

theorem own_sems (c : Dev nD) : (Pipeline.ownSems0 own c : sProp 𝕄) = quietSems c :=
  BI.bigSep_fin_two (fun k : Fin 2 => (semVal ((c : Thread nD τ), own k) 0 : sProp 𝕄))

/-- The exchange as dealt at launch: the two copy semaphores not yet open. -/
def dealt (K : GSem nD τ sig → ℕ) (c : Dev nD) : sProp 𝕄 :=
  iprop(rules m K c ∗ atPos ledger (ready c) 0 ∅ 0 ∗ (openTok ledger (sent c) ∗ openTok ledger (got c))
    ∗ reached ledger (ready (partner c)) 0 ∗ tokens c)

def brought (c : Dev nD) : sProp 𝕄 := iprop((∃ K, dealt m K c) ∗ promised c)

/-- Opening the two copy semaphores, when the region has them at zero. -/
theorem opening (c : Dev nD) : iprop(brought m c ∗ Pipeline.ownSems0 own c ∗ levAts scope level) ⊢ (|={Set.univ}=> carried m c : sProp 𝕄) := by
  rw [own_sems]
  unfold brought carried dealt opened rules quietSems
  iintro ⟨⟨⟨%K, ⟨⟨#HIr, #HIs, #HIg, #HIrP, #HIgP⟩, Har, ⟨Hos, Hog⟩, #HrP, Ht⟩⟩, Hp⟩, ⟨Hs0, Hg0⟩, Hlev⟩
  imod (Rounds.cell_open ledger (plan m) (g := sent c) (Set.mem_univ (K (sent c)))) $$ [Hos Hs0] with ⟨Has, #HrS⟩
  · isplitr; · iexact HIs
    isplitl [Hos] <;> iassumption
  imod (Rounds.cell_open ledger (plan m) (g := got c) (Set.mem_univ (K (got c)))) $$ [Hog Hg0] with ⟨Hag, #HrG⟩
  · isplitr; · iexact HIg
    isplitl [Hog] <;> iassumption
  imodintro
  isplitl [Har Has Hag Ht]
  · iexists K
    isplitr
    · isplitr; · iexact HIr
      isplitr; · iexact HIs
      isplitr; · iexact HIg
      isplitr; · iexact HIrP
      iexact HIgP
    isplitl [Har Has Hag]
    · isplitl [Har]; · iexact Har
      isplitl [Has] <;> iassumption
    isplitr
    · isplitr; · iexact HrP
      isplitr; · iexact HrS
      iexact HrG
    iexact Ht
  isplitl [Hp] <;> iassumption

theorem nothing_held (c : Dev nD) (W : Valuation τ sig (Elt F)) : (StableHlo.held (c : Thread nD τ) ∅ W : sProp 𝕄) = BI.emp := by
  unfold StableHlo.held; exact BI.bigSep_empty

theorem enter (c : Dev nD) : iprop(Pipeline.scopedRest (Pipeline.pin (pcfgs (F := F)) adm 0).spec c ∗ (∃ r, prngReg c r)
      ∗ StableHlo.held (c.tc : Thread nD τ) ∅ (atEntry m c) ∗ carried m c) ⊢ (datas m 0 c).Φ 0 := by
  rw [show (datas m 0 c).Φ 0 = iprop(carried m c ∗ scratch c) from rfl, nothing_held,
    show (Pipeline.scopedRest (Pipeline.pin (pcfgs (F := F)) adm 0).spec c : sProp 𝕄) = _ from scopedRest0_eq c]
  unfold scratch
  iintro ⟨Hs, Hp, -, HX⟩
  isplitl [HX]; · iexact HX
  isplitl [Hs] <;> iassumption

theorem leave (c : Dev nD) : (datas m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (atExit m c) ∗ Pipeline.ownSems0 own c ∗ semVal (ready c) 0) := by
  rw [show (datas m 0 c).Φ (Fin.last _) = iprop(semVal (ready c) 0 ∗ quietSems c ∗ scratch c) from inv_last m c, nothing_held, own_sems,
    show (Pipeline.scopedRest (Pipeline.pin (pcfgs (F := F)) adm 0).spec c : sProp 𝕄) = _ from scopedRest0_eq c]
  unfold scratch
  iintro ⟨Hr, Hq, Hs, Hp⟩
  isplitl [Hs]; · iexact Hs
  isplitl [Hp]; · iexact Hp
  isplitr; · iempintro
  isplitl [Hq] <;> iassumption

/-- Whatever `c` owes is owed on one of its partner's two semaphores. -/
theorem debt_cells {c : Dev nD} {g : GSem nD τ sig} {u : Unit} (h : 0 < debt c g u) : g = got (partner c) ∨ g = ready (partner c) := by
  unfold debt at h
  rw [Pi.add_apply, Finsupp.add_apply, tallyAt_apply, tallyAt_apply] at h
  by_cases h1 : g = got (partner c) ∧ u = ()
  · exact .inl h1.1
  by_cases h2 : g = ready (partner c) ∧ u = ()
  · exact .inr h2.1
  rw [if_neg h1, if_neg h2] at h
  exact absurd h (Nat.lt_irrefl 0)

theorem owed_above (c : Dev nD) (t : Fin ((Pipeline.pin (pcfgs (F := F)) adm 0).N + 1)) (g : GSem nD τ sig) (i : Unit)
    (h : 0 < (datas (F := F) m 0 c).owed t g i) : i ∈ scope g ∧ (0 : ℕ) < level g i := by
  rw [show (datas (F := F) m 0 c).owed t = owing c t.val from rfl] at h
  cases ht : t.val with
  | zero =>
    rw [ht] at h
    rcases debt_cells h with rfl | rfl
    · exact ⟨by rw [scope_tc]; exact Finset.mem_singleton_self _, by rw [level_got]; decide⟩
    · exact ⟨by rw [scope_tc]; exact Finset.mem_singleton_self _, Nat.one_pos⟩
  | succ n => rw [ht] at h; exact absurd h (Nat.lt_irrefl 0)

theorem staging_low : ∀ (w : Fin 4) (s : Fin ((spec0 w).nbuf)), (spec0 w).sem s ≠ gotSem := by decide

local notation "ℍ" => Pipeline.HostSeg (Name := ℕ) (U := Ledgers) (pcfgs (F := F)) defs₀ 𝒱₀ scope level
local notation "ℝ" => Pipeline.RegionSeg (pcfgs (F := F)) adm (datas m) () defs₀ 𝒱₀ scope level

/-- What a device carries past the host operations: the exchange as dealt, the generator register, and its debts. -/
def along (c : Dev nD) : sProp 𝕄 := iprop((brought m c ∗ ∃ r, prngReg c r) ∗ ∃ W, owes (c : Thread nD τ) (debt c) W)

/-- The two reshapes. -/
def hostPart : ℍ := Pipeline.HostSeg.ofOps _ _ _ _ _ plain hostOps0
  (fun op h => Pipeline.sub_ucRefs op (List.forall_iff_forall_mem.mp hostOps0_sub op h))
  (List.forall_iff_forall_mem.mp hostOps0_fresh) (atLaunch m) (along m)

theorem all_full (c : Dev nD) (w : Fin (Pipeline.pin (pcfgs (F := F)) adm 0).W) : (datas m 0 c).share w = fullShare := by
  unfold Dat.share; split <;> rfl

theorem arrays_after (c : Dev nD) : ∀ w : Fin 4, (data m c).arrAt w cfg0.N = atExit m c (Proc.devRef .tc (Pipeline.arrRef spec0 w))
  | 0 => (array_input m c 0 rfl _).trans (exit_other m c main_arg0 (by decide)).symm
  | 1 => (array_input m c 1 rfl _).trans (exit_other m c main_v1 (by decide)).symm
  | 2 => (array_input m c 2 rfl _).trans (exit_other m c main_v2 (by decide)).symm
  | 3 => (array_result m c).trans (exit_result m c).symm

set_option backward.isDefEq.respectTransparency.types false in
/-- The kernel. -/
def kernelPart : ℝ 0 :=
  Pipeline.RegionSeg.ofTalk (pcfgs (F := F)) adm (datas m) () defs₀ 𝒱₀ scope level 0 own (by decide : Pipeline.OwnSemFacts spec0 own)
    ∅ aside (Finset.empty_subset _) launch0.toP rfl (fun c => (body_at m c).loose)
    (fun _ => 0) debt (fun c => (show (data m c).owed 0 = debt c from rfl).trans (zero_add _).symm) (fun c => owed_last m c) (fun _ => rfl) (all_full m)
    (atEntry m) (atExit m) (fun c b hb => Function.update_of_ne (aside_not_result b (Finset.mem_sdiff.mp hb).1) ..)
    (brought m) (fun c => semVal (ready c) 0) (carried m) (fun c => semVal (ready c) 0) (opening m) (enter m) (leave m)
    (fun c => by iintro H; imodintro; iexact H)
    (fun _ => 0)
    ⟨fun c w s => by rw [scope_tc]; exact Finset.mem_singleton_self _,
      fun c w s => Nat.le_of_eq (if_neg (staging_low w s)), fun c t g i h => owed_above m c t g i h⟩
    (fun _ => iprop(emp))
    (fun _ _ => rfl) (fun c w => arrays_after m c w)

/-- The program as its two parts. -/
def parts : List (Pipeline.Seg (pcfgs (F := F)) adm (datas m) () defs₀ 𝒱₀ scope level) := [.host (hostPart m), .region (kernelPart m)]

theorem main_parts (c : Dev nD) : main (F := F) c = Pipeline.Seg.run (parts m) := main_segs adm (datas m) () 𝒱₀ scope level (hostPart m) (kernelPart m) rfl c

theorem kernel_pre (c : Dev nD) : iprop(StableHlo.held (c : Thread nD τ) plain (atEntry m c) ∗ along m c) ⊢ (kernelPart m).pre c := by
  show _ ⊢ iprop(StableHlo.held (c.tc : Thread nD τ) (Pipeline.arrRefs (τ := τ) spec0) (atEntry m c) ∗ (∃ r, prngReg c r)
    ∗ (StableHlo.held (c.tc : Thread nD τ) aside (atEntry m c) ∗ emp) ∗ brought m c ∗ ∃ W, owes (c : Thread nD τ) (0 + debt c) W)
  rw [StableHlo.held_sub_split (c : Thread nD τ) arrays_plain (atEntry m c), zero_add]
  unfold along
  iintro ⟨⟨Ha, Hs⟩, ⟨Hb, Hp⟩, HO⟩
  isplitl [Ha]; · iexact Ha
  isplitl [Hp]; · iexact Hp
  isplitl [Hs]
  · isplitl [Hs]; · iexact Hs
    iempintro
  isplitl [Hb]; · iexact Hb
  iexact HO

/-- How a device ends: its buffers as after the kernel, its ready semaphore at zero. -/
def ending (c : Dev nD) : sProp 𝕄 := iprop(StableHlo.held (c : Thread nD τ) plain (atExit m c) ∗ semVal (ready c) 0)

theorem kernel_post (c : Dev nD) : (kernelPart m).post c ⊢ iprop(ending m c ∗ ∃ W, owes (c : Thread nD τ) (0 : CellTallies nD τ sig Unit) W) := by
  show iprop(StableHlo.held (c.tc : Thread nD τ) (Pipeline.arrRefs (τ := τ) spec0) (atExit m c) ∗ (∃ r, prngReg c r)
    ∗ (StableHlo.held (c.tc : Thread nD τ) aside (atExit m c) ∗ emp) ∗ semVal (ready c) 0
    ∗ ∃ W, owes (c : Thread nD τ) (0 : CellTallies nD τ sig Unit) W) ⊢ _
  unfold ending
  rw [StableHlo.held_sub_split (c : Thread nD τ) arrays_plain (atExit m c)]
  iintro ⟨Ha, -, ⟨Hs, -⟩, Hr, HO⟩
  isplitr [HO]
  · isplitr [Hr]
    · isplitl [Ha] <;> iassumption
    iexact Hr
  iexact HO

/-! ## The exchange dealt to the devices -/

def readyEmb : Dev nD ↪ GSem nD τ sig := ⟨ready, fun _ _ h => congrArg (fun g : GSem nD τ sig => g.1.1) h⟩
theorem own_injective : Function.Injective own := by decide
def copyEmb : Dev nD × Fin 2 ↪ GSem nD τ sig :=
  ⟨fun p => ((p.1 : Thread nD τ), own p.2), fun _ _ h =>
    Prod.ext (congrArg (fun g : GSem nD τ sig => g.1.1) h) (own_injective (congrArg Prod.snd h))⟩

/-- The ready semaphores, whose counters are there at launch; the copy semaphores, whose counters come with the region. -/
abbrev readyCells : Finset (GSem nD τ sig) := Finset.univ.map readyEmb
abbrev copyCells : Finset (GSem nD τ sig) := Finset.univ.map copyEmb

theorem cells_apart : Disjoint (readyCells : Finset (GSem nD τ sig)) copyCells := by
  rw [Finset.disjoint_left]
  rintro g h₁ h₂
  obtain ⟨c, -, rfl⟩ := Finset.mem_map.mp h₁
  obtain ⟨p, -, h⟩ := Finset.mem_map.mp h₂
  exact (by decide : ∀ k : Fin 2, own k ≠ .reg readySem) p.2 (congrArg Prod.snd h)

/-- Every payment of the exchange: one on each of a device's three semaphores. -/
abbrev paid : Fin 3 → SemLoc sig := fun | 0 => .reg readySem | 1 => .dma gotSem | 2 => .dma sentSem
theorem paid_injective : Function.Injective paid := by decide
def payments : Finset (GSem nD τ sig × ℕ × Unit) :=
  Finset.univ.map ⟨fun p : Dev nD × Fin 3 => (((p.1 : Thread nD τ), paid p.2), 0, ()), fun _ _ h =>
    Prod.ext (congrArg (fun t : GSem nD τ sig × ℕ × Unit => t.1.1.1) h) (paid_injective (congrArg (fun t : GSem nD τ sig × ℕ × Unit => t.1.2) h))⟩

theorem payments_eq : bigSep payments (fun x => (dutyTok ledger x.1 x.2.1 x.2.2 : sProp 𝕄))
    = bigSep Finset.univ fun c : Dev nD => iprop(dutyTok ledger (ready c) 0 () ∗ dutyTok ledger (got c) 0 () ∗ dutyTok ledger (sent c) 0 ()) := by
  unfold payments; rw [bigSep_map, bigSep_univ_prod]
  exact bigSep_congr fun c _ => bigSep_univ_eq_bigSepL [(0 : Fin 3), 1, 2] (by decide) (by decide)
    (fun k : Fin 3 => (dutyTok ledger ((c : Thread nD τ), paid k) 0 () : sProp 𝕄))

/-- The tokens of a device's ready and receive semaphores go to its partner, who pays there. -/
theorem payments_dealt : bigSep payments (fun x => (dutyTok ledger x.1 x.2.1 x.2.2 : sProp 𝕄)) ⊢ bigSep Finset.univ fun c : Dev nD => tokens c := by
  rw [payments_eq]
  unfold tokens
  rw [bigSep_sep', bigSep_sep', bigSep_sep', bigSep_sep', bigSep_univ_equiv flip (fun c : Dev nD => (dutyTok ledger (ready c) 0 () : sProp 𝕄)),
    bigSep_univ_equiv flip (fun c : Dev nD => (dutyTok ledger (got c) 0 () : sProp 𝕄))]
  exact BI.Entails.refl _

abbrev exchange₀ := launchOf (readyCells : Finset (GSem nD τ sig)) copyCells payments

/-- What the two ledgers start from. -/
def ledgers₀ : Ledgers :=
  (initOf (Pipeline.cells (Pipeline.pin (pcfgs (F := F)) adm) cellOf_inj) (Pipeline.launchToks (Pipeline.pin (pcfgs (F := F)) adm) cellOf_inj), exchange₀)

/-- The exchange's ledger is whole until it is dealt; until then device 0 keeps it. -/
def keep (c : Dev nD) : sProp 𝕄 := if c = 0 then BI.own (ledger exchange₀) else iprop(emp)

theorem keep_all : bigSep Finset.univ (keep (F := F)) = (BI.own (ledger exchange₀) : sProp 𝕄) := by
  rw [bigSep_univ_at _ (0 : Dev nD), bigSep_congr (s := Finset.univ.erase (0 : Dev nD)) (Ψ := fun _ => (BI.emp : sProp 𝕄))
    fun c hc => by unfold keep; rw [if_neg (Finset.ne_of_mem_erase hc)]; rfl, BI.bigSep_emp_const]
  unfold keep; rw [if_pos rfl]
  exact BI.equiv_iff.mp sep_emp

/-- What every device may look up: all rules, and that the ready semaphores are in their first round. -/
def known (κ : GSem nD τ sig → ℕ) : sProp 𝕄 :=
  iprop((bigSep (readyCells ∪ copyCells) fun g => cellInv ledger (plan m) (κ g) g) ∗ bigSep readyCells fun g => reached ledger g 0)
instance known_persistent (κ : GSem nD τ sig → ℕ) : BI.Persistent (known m κ) := by unfold known; infer_instance

theorem rule_of (κ : GSem nD τ sig → ℕ) {g : GSem nD τ sig} (hg : g ∈ (readyCells ∪ copyCells : Finset (GSem nD τ sig))) :
    (bigSep (readyCells ∪ copyCells) fun g => (cellInv ledger (plan m) (κ g) g : sProp 𝕄)) ⊢ cellInv ledger (plan m) (κ g) g := bigSep_elim hg

theorem ready_in (c : Dev nD) : ready c ∈ (readyCells : Finset (GSem nD τ sig)) := Finset.mem_map_of_mem readyEmb (Finset.mem_univ c)
theorem sent_in (c : Dev nD) : sent c ∈ (copyCells : Finset (GSem nD τ sig)) := Finset.mem_map_of_mem copyEmb (Finset.mem_univ (c, (0 : Fin 2)))
theorem got_in (c : Dev nD) : got c ∈ (copyCells : Finset (GSem nD τ sig)) := Finset.mem_map_of_mem copyEmb (Finset.mem_univ (c, (1 : Fin 2)))

/-- What is a device's alone. -/
def share (c : Dev nD) : sProp 𝕄 :=
  iprop(atPos ledger (ready c) 0 ∅ 0 ∗ (openTok ledger (sent c) ∗ openTok ledger (got c)) ∗ tokens c)

theorem deal (κ : GSem nD τ sig → ℕ) (c : Dev nD) : iprop(known m κ ∗ share c) ⊢ dealt m κ c := by
  unfold known share dealt rules
  iintro ⟨⟨#HI, #HR⟩, Ha, Ho, Ht⟩
  isplitr
  · isplitr; · iapply (rule_of m κ (Finset.mem_union_left _ (ready_in c))); iexact HI
    isplitr; · iapply (rule_of m κ (Finset.mem_union_right _ (sent_in c))); iexact HI
    isplitr; · iapply (rule_of m κ (Finset.mem_union_right _ (got_in c))); iexact HI
    isplitr; · iapply (rule_of m κ (Finset.mem_union_left _ (ready_in (partner c)))); iexact HI
    iapply (rule_of m κ (Finset.mem_union_right _ (got_in (partner c)))); iexact HI
  isplitl [Ha]; · iexact Ha
  isplitl [Ho]; · iexact Ho
  isplitr
  · iapply (show (bigSep readyCells fun g => (reached ledger g 0 : sProp 𝕄)) ⊢ reached ledger (ready (partner c)) 0 from bigSep_elim (ready_in (partner c)))
    iexact HR
  iexact Ht

/-! ### The units promised at launch -/

theorem same_device {d c : Dev nD} {s s' : SemLoc sig} (h : (((c : Thread nD τ), s) : GSem nD τ sig) = ((partner d : Thread nD τ), s')) : d = partner c := by
  have h1 : c = partner d := congrArg (fun g : GSem nD τ sig => g.1.1) h
  rw [h1, partner_partner]

theorem debt_ready (d c : Dev nD) : debt d (ready c) () = if d = partner c then 1 else 0 := by
  unfold debt
  rw [Pi.add_apply, Finsupp.add_apply, tallyAt_apply, tallyAt_apply, if_neg (fun h => nomatch (congrArg Prod.snd h.1 : (SemLoc.reg readySem : SemLoc sig) = .dma gotSem)),
    Nat.zero_add]
  by_cases h : d = partner c
  · subst h; rw [partner_partner, if_pos ⟨rfl, rfl⟩, if_pos rfl]
  · rw [if_neg (fun h' => h (same_device h'.1)), if_neg h]

theorem debt_got (d c : Dev nD) : debt d (got c) () = if d = partner c then load else 0 := by
  unfold debt
  rw [Pi.add_apply, Finsupp.add_apply, tallyAt_apply, tallyAt_apply]
  rw [if_neg (c := got c = ready (partner d) ∧ () = ()) (fun h => nomatch (congrArg Prod.snd h.1 : (SemLoc.dma gotSem : SemLoc sig) = .reg readySem)),
    Nat.add_zero]
  by_cases h : d = partner c
  · subst h; rw [partner_partner, if_pos ⟨rfl, rfl⟩, if_pos rfl]
  · rw [if_neg (fun h' => h (same_device h'.1)), if_neg h]

/-- A semaphore on which only the partner owes, and owes `n`, is promised `n`. -/
theorem promise_at (c : Dev nD) (s : SemLoc sig) (n : ℕ) (h : ∀ d, debt d ((c : Thread nD τ), s) () = if d = partner c then n else 0) :
    tallyOn ((c : Thread nD τ), s) (launchCredit (Pipeline.owing debt) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (partner c) fun _ => n, if_pos (Finset.mem_univ _)]

theorem promises (c : Dev nD) : (Pipeline.launchCred debt c : sProp 𝕄) ⊢ promised c := by
  unfold Pipeline.launchCred promised
  rw [bigSep_univ_at _ (SemLoc.reg readySem), promise_at c (.reg readySem) 1 (fun d => debt_ready d c)]
  refine sep_mono_right ?_
  rw [← promise_at c (.dma gotSem) load (fun d => debt_got d c)]
  exact bigSep_elim (Φ := fun s : SemLoc sig => (cred (tallyOn ((c : Thread nD τ), s) (launchCredit (Pipeline.owing debt) 0 ((c : Thread nD τ), s))) : sProp 𝕄))
    (i := SemLoc.dma gotSem) (Finset.mem_erase.mpr ⟨by decide, Finset.mem_univ _⟩)

/-! ### The start -/

theorem ready_sems (c : Dev nD) : (unscopedSems0 c : sProp 𝕄) = semVal (ready c) 0 := by
  unfold unscopedSems0
  rw [show (Finset.univ.filter fun sm : SemLoc sig => ¬ sm.isScoped .tc) = {SemLoc.reg readySem} from by decide, BI.bigSep_singleton]

theorem only_ready : ∀ sm : SemLoc sig, sm.isScoped .tc = false → sm = .reg readySem := by decide

abbrev beginning (c : Dev nD) : sProp 𝕄 := iprop(StableHlo.held (c : Thread nD τ) plain (atLaunch m c) ∗ along m c)

/-- A device's holdings at launch, the exchange apart. -/
def holdings (c : Dev nD) : sProp 𝕄 :=
  iprop(StableHlo.held (c : Thread nD τ) plain (atLaunch m c) ∗ promised c ∗ owes (c : Thread nD τ) (debt c) ∅ ∗ ∃ r, prngReg c r)

theorem begin (κ : GSem nD τ sig → ℕ) (c : Dev nD) : iprop(known m κ ∗ (share c ∗ holdings m c)) ⊢ beginning m c := by
  unfold holdings beginning along brought
  iintro ⟨#HR, Hs, Hh, Hp, HO, Hg⟩
  isplitl [Hh]; · iexact Hh
  isplitr [HO]
  · isplitr [Hg]
    · isplitl [Hs]
      · iexists κ
        iapply (deal m κ c)
        isplitr; · iexact HR
        iexact Hs
      iexact Hp
    iexact Hg
  iexists ∅; iexact HO

/-- Two families over the devices and the family of their pairs. -/
theorem apart {Φ Ψ : Dev nD → sProp 𝕄} :
    bigSep Finset.univ (fun c => iprop(Φ c ∗ Ψ c)) ⊢ iprop(bigSep Finset.univ Φ ∗ bigSep Finset.univ Ψ) := Entails.of_eq (bigSep_sep _ _ _)
theorem together {Φ Ψ : Dev nD → sProp 𝕄} :
    iprop(bigSep Finset.univ Φ ∗ bigSep Finset.univ Ψ) ⊢ bigSep Finset.univ (fun c => iprop(Φ c ∗ Ψ c)) := Entails.of_eq (bigSep_sep _ _ _).symm

/-- At launch, on all devices together: the rules are made and everything is dealt. -/
theorem start_all :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ keep c)) ∗ levAts scope level)
      ⊢ (|={Set.univ}=> bigSep Finset.univ (beginning m) : sProp 𝕄) := by
  have sorted (c : Dev nD) : iprop(unscopedBufs c (fun b => m ((c : Thread nD τ).loc b)) ∗ unscopedSems0 c
        ∗ owes (c : Thread nD τ) (debt c) ∅ ∗ Pipeline.launchCred debt c ∗ prngReg c (ρ c) ∗ keep c)
      ⊢ (iprop(holdings m c ∗ (semVal (ready c) 0 ∗ keep c)) : sProp 𝕄) := by
    rw [show unscopedBufs c (fun b => m ((c : Thread nD τ).loc b)) = StableHlo.held (c : Thread nD τ) plain (atLaunch m c) from
        Pipeline.unscopedBufs_held c (atLaunch m c), ready_sems]
    unfold holdings
    iintro ⟨Hh, Hr, HO, Hc, Hg, Hk⟩
    isplitl [Hh HO Hc Hg]
    · isplitl [Hh]; · iexact Hh
      isplitl [Hc]; · iapply (promises (F := F) c); iexact Hc
      isplitl [HO]; · iexact HO
      iexists (ρ c); iexact Hg
    isplitl [Hr] <;> iassumption
  have counters : bigSep Finset.univ (fun c : Dev nD => (semVal (ready c) 0 : sProp 𝕄)) ⊢ bigSep readyCells (fun g => (semVal g 0 : sProp 𝕄)) :=
    Entails.of_eq (bigSep_map (s := Finset.univ) readyEmb (Φ := fun g : GSem nD τ sig => (semVal g 0 : sProp 𝕄))).symm
  have places : bigSep readyCells (fun g => (atPos ledger g 0 ∅ 0 : sProp 𝕄)) ⊢ bigSep Finset.univ (fun c : Dev nD => (atPos ledger (ready c) 0 ∅ 0 : sProp 𝕄)) :=
    Entails.of_eq (bigSep_map (s := Finset.univ) readyEmb (Φ := fun g : GSem nD τ sig => (atPos ledger g 0 ∅ 0 : sProp 𝕄)))
  have rights : bigSep copyCells (fun g => (openTok ledger g : sProp 𝕄))
      ⊢ bigSep Finset.univ (fun c : Dev nD => iprop(openTok ledger (sent c) ∗ openTok ledger (got c))) :=
    Entails.of_eq (by
      rw [bigSep_map, bigSep_univ_prod]
      exact bigSep_congr fun c _ => BI.bigSep_fin_two (fun k : Fin 2 => (openTok ledger ((c : Thread nD τ), own k) : sProp 𝕄)))
  iintro ⟨H, -⟩
  ihave H := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ keep c))
      ⊢ (bigSep Finset.univ fun c : Dev nD => iprop(holdings m c ∗ (semVal (ready c) 0 ∗ keep c)) : sProp 𝕄) from bigSep_mono fun c _ => sorted c) $$ H
  ihave H := apart $$ H; icases H with ⟨Hh, H⟩
  ihave H := apart $$ H; icases H with ⟨Hv, Hk⟩
  ihave Hu := (Entails.of_eq (keep_all (F := F))) $$ Hk
  imod (Rounds.fund_launch ledger (plan m) cells_apart (fun g _ h => h) payments) $$ [Hv Hu] with ⟨%κ, -, #HI, #HR, Hat, Hop, Htok⟩
  · isplitl [Hv]
    · iapply counters $$ Hv
    · iexact Hu
  imodintro
  iapply (bigSep_with_persistent (R := known m κ) (Φ := fun c => iprop(share c ∗ holdings m c)) fun c _ => begin m κ c)
  isplitr
  · unfold known
    isplitr; · iexact HI
    iexact HR
  iapply together
  isplitr [Hh]
  · unfold share
    iapply together; isplitl [Hat]; · iapply places $$ Hat
    iapply together; isplitl [Hop]; · iapply rights $$ Hop
    iapply (payments_dealt (F := F)) $$ Htok
  · iexact Hh

/-! ## The run -/

theorem exit_arg0 (c : Dev nD) : atExit m c (Proc.devRef .tc main_arg0) = m ((c : Thread nD τ).loc main_arg0) :=
  (exit_other m c main_arg0 (by decide)).trans (V_main_arg0 m c)
theorem exit_arg1 (c : Dev nD) : atExit m c (Proc.devRef .tc main_arg1) = m ((c : Thread nD τ).loc main_arg1) :=
  (exit_other m c main_arg1 (by decide)).trans (V_main_arg1 m c)
theorem exit_arg2 (c : Dev nD) : atExit m c (Proc.devRef .tc main_arg2) = m ((c : Thread nD τ).loc main_arg2) :=
  (exit_other m c main_arg2 (by decide)).trans (V_main_arg2 m c)

set_option backward.isDefEq.respectTransparency.types false in
/-- Every fair run of the program on the four devices ends, with each device's result the block `result`, its arguments as they were,
    and every semaphore at zero. -/
theorem run_main : θ_run defs (onTc (τ := τ) (main (F := F))) (s₀ m ρ)
    (fun r => (∀ c : Dev nD, r.2.mem ((c : Thread nD τ).loc main_v3) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (datas m) () cellOf_inj stageLedger defs₀ 𝒱₀ scope level m ρ main (parts m)
    (fun c Q => by rw [main_parts m c])
    (by simp only [parts, Pipeline.Seg.pipes_host, Pipeline.Seg.pipes_region, Pipeline.Seg.pipes_nil]; decide)
    (O₀ := debt) (hL := scope_other) (G := keep) (u₀ := ledgers₀ (F := F))
    (hu₀ := by
      unfold ledgers₀
      iintro Hu
      ihave H := (ownU_pair _ _) $$ Hu
      icases H with ⟨HP, HX⟩
      imodintro
      isplitl [HP]; · iexact HP
      rw [keep_all]; iexact HX)
    (T₀ := beginning m) (Tₙ := ending m)
    (hch := ⟨fun c => .rfl, fun c => kernel_pre m c, fun c => kernel_post m c⟩)
    (hinit := start_all m ρ)
    (QY := fun c s => (s.mem ((c : Thread nD τ).loc main_v3) = result m c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)) ∧ s.sem (ready c) = 0)
    (hfin := fun c s' => by
      unfold ending; rw [plain_eq, exit_arg0, exit_arg1, exit_arg2, exit_result]
      iintro ⟨⟨⟨H0, H1, H2, -, -, H3⟩, Hr⟩, HSI⟩
      icombine HSI H0 gives %h0
      icombine HSI H1 gives %h1
      icombine HSI H2 gives %h2
      icombine HSI H3 gives %h3
      icombine HSI Hr gives %hr
      imodintro
      isplitr
      · ipureintro
        exact ⟨⟨Buf.eq_of_forall_mem_univ h3, Buf.eq_of_forall_mem_univ h0, Buf.eq_of_forall_mem_univ h1, Buf.eq_of_forall_mem_univ h2⟩, by simpa using hr⟩
      iexact HSI)
    (hQ := fun s h hs => ⟨fun c => (h c).1, sem_eq_zero hs fun c sm hsm => by
      obtain rfl := only_ready sm hsm
      exact (h c).2⟩)

end Cert.KernelIdeal.Swap

end
-- ==== Proof.Rows.lean ====
/- One row of the layer normalisation, on extended reals. The kernel takes the variance of a row as the mean of
   the squares less the square of the mean, and multiplies by a reciprocal square root; the reference takes the mean
   of the squared deviations, and divides by a square root. On a row of real numbers the two give one value, whatever
   extended reals scale and shift it. -/
module

public import Idealize.ShloMosaic.Lib.IdealHost

@[expose] public section

noncomputable section

open scoped BigOperators

namespace Cert.Rows

open Idealize.ShloMosaic

/-- The length of a whole row, 512, as the constant both programs hold. -/
abbrev length : EReal := Ideal.ofBits .f32 0x44000000#32
/-- The constant added to a variance, the same word in both programs. -/
abbrev epsilon : EReal := Ideal.ofBits .f32 0x3727C5AC#32

theorem length_eq : length = ((512 : ℝ) : EReal) := by
  simp [length, Ideal.ofBits, Ideal.ieee, -EReal.coe_mul]; norm_num

theorem epsilon_pos : ∃ e : ℝ, 0 < e ∧ epsilon = (e : EReal) :=
  ⟨10995116 * 2 ^ (-40 : ℤ), by positivity, by simp [epsilon, Ideal.ofBits, Ideal.ieee, -EReal.coe_mul]⟩

/-- A sum of real numbers is the same sum of extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real number divided by the row's length. -/
theorem div_length (a : ℝ) : Ideal.div (a : EReal) length = ((a / 512 : ℝ) : EReal) := by
  rw [length_eq, Ideal.div, if_neg (by exact_mod_cast (by norm_num : (512 : ℝ) ≠ 0)), ← EReal.coe_inv, ← EReal.coe_mul, div_eq_mul_inv]

/-- The mean square less the squared mean is the mean squared deviation. -/
theorem variance_eq (x : Fin 512 → ℝ) :
    (∑ k, x k * x k) / 512 - (∑ k, x k) / 512 * ((∑ k, x k) / 512)
      = (∑ k, (x k - (∑ k, x k) / 512) * (x k - (∑ k, x k) / 512)) / 512 := by
  generalize hs : (∑ k, x k) = s
  have h : ∑ k, (x k - s / 512) * (x k - s / 512) = ∑ k, x k * x k - 2 * (s / 512) * s + 512 * (s / 512 * (s / 512)) := by
    calc ∑ k, (x k - s / 512) * (x k - s / 512)
        = ∑ k, (x k * x k - 2 * (s / 512) * x k + s / 512 * (s / 512)) := Finset.sum_congr rfl fun k _ => by ring
      _ = _ := by
        rw [Finset.sum_add_distrib, Finset.sum_sub_distrib, ← Finset.mul_sum, hs]
        simp
  rw [h]; ring

theorem variance_nonneg (x : Fin 512 → ℝ) (a : ℝ) : 0 ≤ (∑ k, (x k - a) * (x k - a)) / 512 :=
  div_nonneg (Finset.sum_nonneg fun k _ => mul_self_nonneg _) (by norm_num)

/-- At a positive real number, a product with the reciprocal square root is the quotient by the square root. -/
theorem div_sqrt (y : EReal) {v : ℝ} (hv : 0 < v) : Ideal.div y (Ideal.sqrt (v : EReal)) = y * Ideal.rsqrt (v : EReal) := by
  have h : Real.sqrt v ≠ 0 := (Real.sqrt_pos.2 hv).ne'
  rw [Ideal.sqrt_coe, if_neg hv.not_gt, Ideal.rsqrt_coe, if_neg hv.not_gt, if_neg hv.ne', Ideal.div, if_neg (by exact_mod_cast h), EReal.coe_inv]

/-- The mean of a row, as both programs take it. -/
def mean (x : Fin 512 → EReal) : EReal := Ideal.div (∑ k, x k) length

/-- One element of the reference: element `l` of the row `x`, normalised, scaled by `g` and shifted by `b`. -/
def normalised (x : Fin 512 → EReal) (g b : EReal) (l : Fin 512) : EReal :=
  Ideal.div (g * (x l - mean x)) (Ideal.sqrt (Ideal.div (∑ k, (x k - mean x) * (x k - mean x)) length + epsilon)) + b

/-- One element of the kernel, from the row's sum and the sum of its squares. -/
def fromSums (s q g b t : EReal) : EReal :=
  g * (t - Ideal.div s length) * Ideal.rsqrt (Ideal.div q length - Ideal.div s length * Ideal.div s length + epsilon) + b

/-- On a row of real numbers the two agree. -/
theorem fromSums_eq (x : Fin 512 → EReal) (hx : ∀ k, ∃ y : ℝ, x k = (y : EReal)) (g b : EReal) (l : Fin 512) :
    fromSums (∑ k, x k) (∑ k, x k * x k) g b (x l) = normalised x g b l := by
  choose y hy using hx
  obtain rfl : x = fun k => (y k : EReal) := funext hy
  obtain ⟨e, he, hE⟩ := epsilon_pos
  have hm : mean (fun k => (y k : EReal)) = (((∑ k, y k) / 512 : ℝ) : EReal) := by
    rw [mean, ← coe_sum, div_length]
  have hs : Ideal.div (∑ k, (y k : EReal)) length = (((∑ k, y k) / 512 : ℝ) : EReal) := hm
  have hq : ∑ k, (y k : EReal) * (y k : EReal) = ((∑ k, y k * y k : ℝ) : EReal) := by
    rw [coe_sum]; exact Finset.sum_congr rfl fun k _ => (EReal.coe_mul _ _).symm
  have hd : ∑ k, ((y k : EReal) - (((∑ k, y k) / 512 : ℝ) : EReal)) * ((y k : EReal) - (((∑ k, y k) / 512 : ℝ) : EReal))
      = ((∑ k, (y k - (∑ k, y k) / 512) * (y k - (∑ k, y k) / 512) : ℝ) : EReal) := by
    rw [coe_sum]; exact Finset.sum_congr rfl fun k _ => by rw [EReal.coe_mul, EReal.coe_sub]
  unfold fromSums normalised
  simp only [hm, hs, hd]
  rw [hq, div_length, div_length, hE, ← EReal.coe_mul, ← EReal.coe_sub, ← EReal.coe_sub, ← EReal.coe_add, ← EReal.coe_add, variance_eq,
    div_sqrt _ (add_pos_of_nonneg_of_pos (variance_nonneg y _) he)]

end Cert.Rows

end
-- ==== Proof.ReferenceValue.lean ====
/- The reference: what it leaves in its result buffer, by name and then element by element, and its run with every
   counter back at zero. -/
module

public import proofs.«01_k».proof.Proof.Gen.ReferenceIdeal.Run
public import proofs.«01_k».proof.Proof.Rows
public import Idealize.ShloMosaic.Lib.Quiescent
public import Idealize.ShloMosaic.Lib.Pointwise

@[expose] public section

noncomputable section

namespace Cert.ReferenceIdeal.Norm

open Cert.ReferenceIdeal Cert.ReferenceIdeal.Gen Cert.Rows Idealize.ShloMosaic Idealize.ShloMosaic.TcCoe Idealize.SL.Sem

variable {F : FTy → Type} [FloatOps F]

/-- The argument in single precision. -/
def wide (X : FVec F S1024x512 .bf16) : FVec F S1024x512 .f32 := extf .f32 X bitsLt_bf16_f32
/-- 512 in every row. -/
def count : FVec F S1024x1 .f32 := broadcastInDim S1024x1 ![] bcast_S_S1024x1 (constant S_ .f32 0x44000000#32)
/-- The sum of each row. -/
def sums (X : FVec F S1024x512 .f32) : FVec F S1024x1 .f32 :=
  broadcastInDim S1024x1 ![0] bcast_S1024_S1024x1_0 (Host.reduceAdd X (constant S_ .f32 0x00000000#32) reducesTo_S1024x512_S1024_d1 h_S_)
/-- Each element less its row's mean. -/
def centred (X : FVec F S1024x512 .bf16) : FVec F S1024x512 .f32 :=
  subf (wide X) (broadcastInDim S1024x512 ![0, 1] bcast_S1024x1_S1024x512_0_1 (Host.divf (sums (wide X)) count))
/-- What a sum of squared deviations is divided by: 512 less the correction, which is zero. -/
def degrees : FVec F S_ .f32 := subf (constant S_ .f32 0x44000000#32) (sitofp .f32 (constantI S_ 32 0#32))
/-- The variance of each row. -/
def variance (X : FVec F S1024x512 .bf16) : FVec F S1024x1 .f32 :=
  select (broadcastInDim S1024x1 ![] bcast_S_S1024x1 (cmpf .ogt (degrees (F := F)) (constant S_ .f32 0x00000000#32)))
    (Host.divf (sums (mulf (centred X) (centred X))) (broadcastInDim S1024x1 ![] bcast_S_S1024x1 degrees))
    (broadcastInDim S1024x1 ![] bcast_S_S1024x1 (id (constant S_ .f32 0x7FC00000#32)))
/-- A vector of one element per column, repeated down the rows. -/
def down (G : FVec F S512 .bf16) : FVec F S1024x512 .f32 :=
  broadcastInDim S1024x512 ![0, 1] bcast_S1x512_S1024x512_0_1 (broadcastInDim S1x512 ![1] bcast_S512_S1x512_1 (extf .f32 G bitsLt_bf16_f32))
/-- The square root of each row's variance, repeated along the row. -/
def spread (X : FVec F S1024x512 .bf16) : FVec F S1024x512 .f32 :=
  broadcastInDim S1024x512 ![0, 1] bcast_S1024x1_S1024x512_0_1
    (Host.sqrt (addf (variance X) (broadcastInDim S1024x1 ![] bcast_S_S1024x1 (constant S_ .f32 0x3727C5AC#32))))
/-- The reference's result. -/
def out (X : FVec F S1024x512 .bf16) (G B : FVec F S512 .bf16) : FVec F S1024x512 .bf16 :=
  truncf .bf16 (addf (Host.divf (mulf (down G) (centred X)) (spread X)) (down B)) bitsLt_bf16_f32

theorem no_sems : sig.nSem + sig.nDmaSem = 0 := by decide

/-- Every execution of the reference ends with its result at `out` of the arguments, the arguments unchanged and
    every counter at zero. -/
theorem run_out (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_v21)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨h, sem_eq_zero_of_no_sems no_sems r.2⟩) (Value.run m ρ)

theorem degrees_eq (i : S_.Idx) : degrees (F := Ideal) i = length := by
  show length - ((((0#32 : BitVec 32).toInt : ℤ) : ℝ) : EReal) = length
  simp

theorem centred_apply (X : FVec Ideal S1024x512 .bf16) (r : Fin 1024) (l : Fin 512) :
    centred X (ix2 r l) = X (ix2 r l) - mean fun k => X (ix2 r k) := by
  pointwise [centred, sums, wide, count, mean]

theorem variance_apply (X : FVec Ideal S1024x512 .bf16) (r : Fin 1024) (u : Fin 1) :
    variance X (ix2 r u) = Ideal.div (∑ k : Fin 512, centred X (ix2 r k) * centred X (ix2 r k)) length := by
  pointwise [variance, sums]
  rw [degrees_eq, if_pos (by rw [length_eq]; exact_mod_cast (by norm_num : (0 : ℝ) < 512))]

/-- One element of the reference's result is the normalised element of its row. -/
theorem out_apply (X : FVec Ideal S1024x512 .bf16) (G B : FVec Ideal S512 .bf16) (r : Fin 1024) (l : Fin 512) :
    out X G B (ix2 r l) = normalised (fun k => X (ix2 r k)) (G (ix1 l)) (B (ix1 l)) l := by
  pointwise [out, down, spread]
  simp only [variance_apply, centred_apply]
  rfl

end Cert.ReferenceIdeal.Norm

end
-- ==== Proof.KernelValue.lean ====
/- The value the idealized kernel leaves on each device is that device's block of the reference's result. -/
module

public import proofs.«01_k».proof.Proof.KernelIdealSwap
public import proofs.«01_k».proof.Proof.ReferenceValue
public import proofs.«01_k».proof.Pre_finite_rows_KernelIdeal
public import Idealize.ShloMosaic.Lib.Layout
public import Idealize.ShloMosaic.Lib.Pointwise
public import Idealize.ShloMosaic.Lib.WholeRead

@[expose] public section

noncomputable section

open scoped BigOperators

namespace Cert.KernelIdeal.Swap

open Cert.KernelIdeal Cert.KernelIdeal.Gen Cert.Rows Idealize.ShloMosaic Idealize.ShloMosaic.TcCoe

/-! ## The payloads at an index -/

theorem sum_apply (X : FVec Ideal S512x256 .bf16) (r : Fin 512) (u : Fin 1) : k0_pay3 (F := Ideal) X (ix2 r u) = ∑ k : Fin 256, X (ix2 r k) := by
  pointwise [k0_pay3, k0_pay2]

theorem square_apply (X : FVec Ideal S512x256 .bf16) (r : Fin 512) (u : Fin 1) :
    k0_pay4 (F := Ideal) X (ix2 r u) = ∑ k : Fin 256, X (ix2 r k) * X (ix2 r k) := by
  pointwise [k0_pay4, k0_pay2]

theorem stored_apply (X : FVec Ideal S512x256 .bf16) (s s' q q' : FVec Ideal S512x1 .f32) (G B : FVec Ideal S1x256 .bf16) (r : Fin 512) (l : Fin 256) :
    k0_pay1 (F := Ideal) (k0_pay2 X) s s' q q' G B (ix2 r l)
      = fromSums (s (ix2 r 0) + s' (ix2 r 0)) (q (ix2 r 0) + q' (ix2 r 0)) (G (ix2 0 l)) (B (ix2 0 l)) (X (ix2 r l)) := by
  pointwise [k0_pay1, k0_pay2, fromSums]

/-! ## The staged blocks are the device's arguments -/

variable {F : FTy → Type} [FloatOps F] (m : (ℓ : Loc nD τ sig) → Buf (Elt F) ℓ)

theorem xin_eq (c : Dev nD) : xin m c = m ((c : Thread nD τ).loc main_arg0) := by
  have hz : (fun a => win0_0.index t0_0 a * main_arg0.ty.shape.size a) = fun _ => 0 := funext fun a => by fin_cases a <;> decide
  exact (Memref.read_access_unit_zero (Elt F) main_arg0 hz (fun a => by fin_cases a <;> decide) _).trans (V_main_arg0 m c)

theorem entry_gamma (c : Dev nD) : V m c main_v1 = shapeCast S1x256 (m ((c : Thread nD τ).loc main_arg1)) shapeCasts_S256_S1x256 := by
  unfold V hostOps0
  after_results_simp
  rfl
theorem entry_beta (c : Dev nD) : V m c main_v2 = shapeCast S1x256 (m ((c : Thread nD τ).loc main_arg2)) shapeCasts_S256_S1x256 := by
  unfold V hostOps0
  after_results_simp
  rfl

theorem gin_eq (c : Dev nD) : gin m c = shapeCast S1x256 (m ((c : Thread nD τ).loc main_arg1)) shapeCasts_S256_S1x256 := by
  have hz : (fun a => win0_1.index t0_0 a * main_v1.ty.shape.size a) = fun _ => 0 := funext fun a => by fin_cases a <;> decide
  exact (Memref.read_access_unit_zero (Elt F) main_v1 hz (fun a => by fin_cases a <;> decide) _).trans (entry_gamma m c)

theorem bin_eq (c : Dev nD) : bin m c = shapeCast S1x256 (m ((c : Thread nD τ).loc main_arg2)) shapeCasts_S256_S1x256 := by
  have hz : (fun a => win0_2.index t0_0 a * main_v2.ty.shape.size a) = fun _ => 0 := funext fun a => by fin_cases a <;> decide
  exact (Memref.read_access_unit_zero (Elt F) main_v2 hz (fun a => by fin_cases a <;> decide) _).trans (entry_beta m c)

theorem row_apply {α : Type} (v : S256.Idx → α) (u : Fin 1) (l : Fin 256) : shapeCast S1x256 v shapeCasts_S256_S1x256 (ix2 u l) = v (ix1 l) := by
  pointwise []

/-! ## Where a device's elements are in the whole arrays -/

/-- Row `r` of device `c`'s block. -/
def rowAt (c : Dev nD) (r : Fin 512) : Fin 1024 := ⟨c.val / 2 * 512 + r.val, by have : c.val < 4 := c.isLt; omega⟩
/-- Column `l` of device `c`'s block. -/
def colAt (c : Dev nD) (l : Fin 256) : Fin 512 := ⟨c.val % 2 * 256 + l.val, by omega⟩

theorem rowAt_partner (c : Dev nD) (r : Fin 512) : rowAt (partner c) r = rowAt c r :=
  Fin.ext (congrArg (· * 512 + r.val) ((by decide : ∀ c : Dev nD, (partner c).val / 2 = c.val / 2) c))

/-- The block of a matrix that device `c` holds. -/
abbrev held2 {α : Type} (c : Dev nD) (v : (⟨2, ![1024, 512]⟩ : Shape).Idx → α) : S512x256.Idx → α :=
  Layout.blockN ⟨2, ![512, 256]⟩ ⟨2, ![1024, 512]⟩ (Layout.meshBlock [2, 2] ![[0], [1]] c) v
/-- The block of a vector along the columns that device `c` holds. -/
abbrev held1 {α : Type} (c : Dev nD) (v : (⟨1, ![512]⟩ : Shape).Idx → α) : S256.Idx → α :=
  Layout.blockN ⟨1, ![256]⟩ ⟨1, ![512]⟩ (Layout.meshBlock [2, 2] ![[1]] c) v

theorem held2_apply {α : Type} (c : Dev nD) (v : (⟨2, ![1024, 512]⟩ : Shape).Idx → α) (r : Fin 512) (l : Fin 256) :
    held2 c v (ix2 r l) = v (ix2 (rowAt c r) (colAt c l)) := by
  have h0 : ∀ c : Dev nD, ((Layout.meshBlock [2, 2] ![[0], [1]] c) 0).val = c.val / 2 := by decide
  have h1 : ∀ c : Dev nD, ((Layout.meshBlock [2, 2] ![[0], [1]] c) 1).val = c.val % 2 := by decide
  refine congrArg v (funext fun a => Fin.ext ?_)
  match a with
  | ⟨0, _⟩ => exact congrArg (· * 512 + r.val) (h0 c)
  | ⟨1, _⟩ => exact congrArg (· * 256 + l.val) (h1 c)

theorem held1_apply {α : Type} (c : Dev nD) (v : (⟨1, ![512]⟩ : Shape).Idx → α) (l : Fin 256) :
    held1 c v (ix1 l) = v (ix1 (colAt c l)) := by
  have h0 : ∀ c : Dev nD, ((Layout.meshBlock [2, 2] ![[1]] c) 0).val = c.val % 2 := by decide
  refine congrArg v (funext fun a => Fin.ext ?_)
  match a with
  | ⟨0, _⟩ => exact congrArg (· * 256 + l.val) (h0 c)

/-- A whole row's sum is the device's share and its partner's. -/
theorem sum_shares (c : Dev nD) (f : Fin 512 → EReal) :
    (∑ k : Fin 256, f (colAt c k)) + ∑ k : Fin 256, f (colAt (partner c) k) = ∑ k, f k := by
  have hs : ∑ k, f k = (∑ k : Fin 256, f ⟨k.val, by omega⟩) + ∑ k : Fin 256, f ⟨256 + k.val, by omega⟩ := Fin.sum_univ_add (a := 256) (b := 256) f
  have hc : ∀ (d : Dev nD) (k : Fin 256), d.val % 2 = 0 → colAt d k = ⟨k.val, by omega⟩ := fun d k h => Fin.ext (by simp [colAt, h])
  have hc' : ∀ (d : Dev nD) (k : Fin 256), d.val % 2 = 1 → colAt d k = ⟨256 + k.val, by omega⟩ := fun d k h => Fin.ext (by simp [colAt, h])
  have hp : (partner c).val % 2 = 1 - c.val % 2 := (by decide : ∀ c : Dev nD, (partner c).val % 2 = 1 - c.val % 2) c
  rcases Nat.mod_two_eq_zero_or_one c.val with h | h
  · simp only [hc c _ h, hc' (partner c) _ (by omega), hs]
  · simp only [hc' c _ h, hc (partner c) _ (by omega), hs]
    exact add_comm _ _

/-! ## Finite arguments -/

/-- What the precondition says of one device's block. -/
theorem real_of_finite [facts : Cert.Pre_finite_rows_KernelIdeal.Facts] (X : FVec Ideal S512x256 .bf16) (G B : FVec Ideal S256 .bf16)
    (h : Cert.Pre_finite_rows_KernelIdeal.fn (F := Ideal) X G B = fun _ => 1#1) (i : S512x256.Idx) : ∃ y : ℝ, X i = (y : EReal) := by
  have hi : Ideal.cmp .olt (max (X i) (-X i)) (Ideal.ofBits .bf16 0x7F80#16) = 1#1 := congrFun h i
  have ht : Ideal.ofBits .bf16 0x7F80#16 = ⊤ := by simp [Ideal.ofBits, Ideal.ieee]
  rw [ht] at hi
  have hlt : max (X i) (-X i) < ⊤ := by
    by_contra hn
    simp [Ideal.cmp, hn] at hi
  obtain ⟨h1, h2⟩ := max_lt_iff.1 hlt
  refine ⟨(X i).toReal, (EReal.coe_toReal h1.ne ?_).symm⟩
  intro hb
  rw [hb] at h2
  exact absurd h2 (by simp)

/-! ## The result -/

/-- Where every element that a row's two devices hold is real, device `c`'s result is its block of the reference's. -/
theorem result_eq (m : (ℓ : Loc nD τ sig) → Buf (Elt Ideal) ℓ) (X : FVec Ideal ⟨2, ![1024, 512]⟩ .bf16) (G B : FVec Ideal ⟨1, ![512]⟩ .bf16)
    (hx : ∀ c : Dev nD, m ((c : Thread nD τ).loc main_arg0) = held2 c X)
    (hg : ∀ c : Dev nD, m ((c : Thread nD τ).loc main_arg1) = held1 c G)
    (hb : ∀ c : Dev nD, m ((c : Thread nD τ).loc main_arg2) = held1 c B)
    (hr : ∀ (c : Dev nD) i, ∃ y : ℝ, held2 c X i = (y : EReal)) (c : Dev nD) :
    result m c = held2 c (Cert.ReferenceIdeal.Norm.out X G B) := by
  funext j
  obtain ⟨r, l, rfl⟩ : ∃ (r : Fin 512) (l : Fin 256), j = ix2 r l := ⟨j 0, j 1, eq_ix2 j⟩
  have hreal : ∀ k : Fin 512, ∃ y : ℝ, X (ix2 (rowAt c r) k) = (y : EReal) := by
    intro k
    have hlt : c.val < 4 := c.isLt
    have e : ix2 (rowAt c r) k = ix2 (rowAt (⟨c.val / 2 * 2 + k.val / 256, by show _ < 4; omega⟩ : Dev nD) r)
        (colAt (⟨c.val / 2 * 2 + k.val / 256, by show _ < 4; omega⟩ : Dev nD) ⟨k.val % 256, by omega⟩) := by
      congr 1
      · refine Fin.ext ?_; simp only [rowAt]; omega
      · refine Fin.ext ?_; simp only [colAt]; omega
    rw [e, ← held2_apply _ X]
    exact hr _ _
  rw [held2_apply, Cert.ReferenceIdeal.Norm.out_apply, ← fromSums_eq _ hreal]
  unfold result
  rw [stored_apply, sum_apply, sum_apply, square_apply, square_apply, xin_eq, xin_eq, gin_eq, bin_eq, row_apply, row_apply, hx, hx, hg, hb]
  simp only [held2_apply, held1_apply, rowAt_partner]
  rw [sum_shares c fun k => X (ix2 (rowAt c r) k), sum_shares c fun k => X (ix2 (rowAt c r) k) * X (ix2 (rowAt c r) k)]

end Cert.KernelIdeal.Swap

end
-- ==== Proof.lean ====
module

public import proofs.«01_k».proof.Defs
public import proofs.«01_k».proof.Proof.KernelRun
public import proofs.«01_k».proof.Proof.KernelIdealRun
public import proofs.«01_k».proof.Proof.KernelValue
public import proofs.«01_k».proof.Proof.ReferenceValue

@[expose] public section

noncomputable section

namespace Cert.Proof

open Idealize.ShloMosaic Idealize.SL.Sem

theorem finite_block : Cert.Pre_finite_rows_KernelIdeal.Facts := ⟨by decide⟩
theorem finite_whole : Cert.Pre_finite_rows_ReferenceIdeal.Facts := ⟨by decide⟩

theorem claim : Cert.Claim :=
  ⟨Cert.Kernel.Gen.facts, Cert.KernelIdeal.Gen.facts, Cert.ReferenceIdeal.Gen.facts, finite_block, finite_whole,
    fun m g _ => (θ_run _ _ _).mono (fun _ h => ⟨fun c => (h.1 c).2, h.2⟩) (Cert.Kernel.Swap.run_main m g),
    fun m g _ => (θ_run _ _ _).mono (fun _ h => ⟨fun c => (h.1 c).2, h.2⟩) (Cert.KernelIdeal.Swap.run_main m g),
    fun m g _ => (θ_run _ _ _).mono (fun _ h => ⟨fun c => (h.1 c).2, h.2⟩) (Cert.KernelIdeal.Swap.run_main m g),
    fun m g _ => (θ_run _ _ _).mono (fun _ h => ⟨fun c => (h.1 c).2, h.2⟩) (Cert.ReferenceIdeal.Norm.run_out m g),
    fun m g _ => (θ_run _ _ _).mono (fun _ h => ⟨fun c => (h.1 c).2, h.2⟩) (Cert.ReferenceIdeal.Norm.run_out m g),
    trivial,
    fun m g m' g' hpre hin =>
      ⟨_, (θ_run _ _ _).mono
          (fun _ h c => ⟨(h.1 c).1.trans (Cert.KernelIdeal.Swap.result_eq m _ _ _ (fun d => (hin d).1) (fun d => (hin d).2.1) (fun d => (hin d).2.2)
              (fun d i => (Cert.KernelIdeal.Swap.real_of_finite (facts := finite_block) _ _ _ (hpre d) i).imp fun _ hy => (congrFun (hin d).1 i).symm.trans hy) c), (h.1 c).2⟩)
          (Cert.KernelIdeal.Swap.run_main m g),
        (θ_run _ _ _).mono (fun _ h => h.1 0) (Cert.ReferenceIdeal.Norm.run_out m' g')⟩⟩

end Cert.Proof

end
